-- ==== Defs.lean ====
def Pre_Kernel [hPre_types_in_range : Cert.Pre_types_in_range.Facts] (m : (ℓ : Loc Cert.Kernel.nD Cert.Kernel.τ Cert.Kernel.sig) → Buf (Elt Bits) ℓ) : Prop :=
  ∀ c : Dev Cert.Kernel.nD,
    (Cert.Pre_types_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] [hPre_types_in_range : Cert.Pre_types_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_types_in_range : Cert.Pre_types_in_range.Facts) (hPre_finite_in_range : Cert.Pre_finite_in_range.Facts),
    quiescent_Kernel (hKernel := hKernel) (hPre_types_in_range := hPre_types_in_range)
    ∧ quiescent_KernelIdeal (hKernelIdeal := hKernelIdeal) (hPre_types_in_range := hPre_types_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S2048x16x96 : Shape := ⟨3, ![2048, 16, 96]⟩
abbrev S2048 : Shape := ⟨1, ![2048]⟩
abbrev S16x16x16x23 : Shape := ⟨4, ![16, 16, 16, 23]⟩
abbrev S16x16x4 : Shape := ⟨3, ![16, 16, 4]⟩
abbrev S16x1 : Shape := ⟨2, ![16, 1]⟩
abbrev S3x23x96 : Shape := ⟨3, ![3, 23, 96]⟩
abbrev S3x4x96 : Shape := ⟨3, ![3, 4, 96]⟩
abbrev S3x1x96 : Shape := ⟨3, ![3, 1, 96]⟩
abbrev S_ : Shape := ⟨0, ![]⟩

class Facts : Prop where
  bcast_S_S2048 : S_.BroadcastsInDim S2048 (![] : Fin 0 → Fin S2048.rank)
  bcast_S_S2048x16x96 : S_.BroadcastsInDim S2048x16x96 (![] : Fin 0 → Fin S2048x16x96.rank)
  bcast_S_S16x16x16x23 : S_.BroadcastsInDim S16x16x16x23 (![] : Fin 0 → Fin S16x16x16x23.rank)
  bcast_S_S16x16x4 : S_.BroadcastsInDim S16x16x4 (![] : Fin 0 → Fin S16x16x4.rank)
  bcast_S_S3x23x96 : S_.BroadcastsInDim S3x23x96 (![] : Fin 0 → Fin S3x23x96.rank)
  bcast_S_S3x4x96 : S_.BroadcastsInDim S3x4x96 (![] : Fin 0 → Fin S3x4x96.rank)

variable [Facts]

def fn_part1 {F : FTy → Type} [FloatOps F] (main_v4 : IVec S2048 1) (main_v7 : IVec S2048x16x96 1) (main_v10 : IVec S16x16x16x23 1) (main_v13 : IVec S16x16x4 1) (main_v16 : IVec S3x23x96 1) (main_v17 : FVec F S3x4x96 .f32) : IVec S2048 1 × IVec S2048x16x96 1 × IVec S16x16x16x23 1 × IVec S16x16x4 1 × IVec S3x23x96 1 × IVec S3x4x96 1 :=
  let main_cst_4 : FVec F S_ .f32 := constant S_ .f32 0x7F800000#32
  let main_v18 : FVec F S3x4x96 .f32 := broadcastInDim S3x4x96 ![] bcast_S_S3x4x96 main_cst_4
  let main_v19 : IVec S3x4x96 1 := cmpf .olt main_v17 main_v18
  (main_v4, main_v7, main_v10, main_v13, main_v16, main_v19)

def fn {F : FTy → Type} [FloatOps F] (main_arg0 : FVec F S2048x16x96 .f32) (main_arg1 : IVec S2048 32) (main_arg2 : FVec F S16x16x16x23 .f32) (main_arg3 : FVec F S16x16x4 .f32) (main_arg4 : FVec F S16x1 .f32) (main_arg5 : FVec F S3x23x96 .f32) (main_arg6 : FVec F S3x4x96 .f32) (main_arg7 : FVec F S3x1x96 .f32) : IVec S2048 1 × IVec S2048x16x96 1 × IVec S16x16x16x23 1 × IVec S16x16x4 1 × IVec S3x23x96 1 × IVec S3x4x96 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 3#32
  let main_v2 : IVec S2048 32 := broadcastInDim S2048 ![] bcast_S_S2048 main_c_0
  let main_v3 : IVec S2048 1 := cmpi .slt main_arg1 main_v2
  let main_v4 : IVec S2048 1 := andi main_v1 main_v3
  let main_v5 : FVec F S2048x16x96 .f32 := Host.absf main_arg0
  let main_cst : FVec F S_ .f32 := constant S_ .f32 0x7F800000#32
  let main_v6 : FVec F S2048x16x96 .f32 := broadcastInDim S2048x16x96 ![] bcast_S_S2048x16x96 main_cst
  let main_v7 : IVec S2048x16x96 1 := cmpf .olt main_v5 main_v6
  let main_v8 : FVec F S16x16x16x23 .f32 := Host.absf main_arg2
  let main_cst_1 : FVec F S_ .f32 := constant S_ .f32 0x7F800000#32
  let main_v9 : FVec F S16x16x16x23 .f32 := broadcastInDim S16x16x16x23 ![] bcast_S_S16x16x16x23 main_cst_1
  let main_v10 : IVec S16x16x16x23 1 := cmpf .olt main_v8 main_v9
  let main_v11 : FVec F S16x16x4 .f32 := Host.absf main_arg3
  let main_cst_2 : FVec F S_ .f32 := constant S_ .f32 0x7F800000#32
  let main_v12 : FVec F S16x16x4 .f32 := broadcastInDim S16x16x4 ![] bcast_S_S16x16x4 main_cst_2
  let main_v13 : IVec S16x16x4 1 := cmpf .olt main_v11 main_v12
  let main_v14 : FVec F S3x23x96 .f32 := Host.absf main_arg5
  let main_cst_3 : FVec F S_ .f32 := constant S_ .f32 0x7F800000#32
  let main_v15 : FVec F S3x23x96 .f32 := broadcastInDim S3x23x96 ![] bcast_S_S3x23x96 main_cst_3
  let main_v16 : IVec S3x23x96 1 := cmpf .olt main_v14 main_v15
  let main_v17 : FVec F S3x4x96 .f32 := Host.absf main_arg6
  fn_part1 (F := F) main_v4 main_v7 main_v10 main_v13 main_v16 main_v17
-- ==== Pre_types_in_range.lean ====
abbrev S2048x16x96 : Shape := ⟨3, ![2048, 16, 96]⟩
abbrev S2048 : Shape := ⟨1, ![2048]⟩
abbrev S16x16x16x23 : Shape := ⟨4, ![16, 16, 16, 23]⟩
abbrev S16x16x4 : Shape := ⟨3, ![16, 16, 4]⟩
abbrev S16x1 : Shape := ⟨2, ![16, 1]⟩
abbrev S3x23x96 : Shape := ⟨3, ![3, 23, 96]⟩
abbrev S3x4x96 : Shape := ⟨3, ![3, 4, 96]⟩
abbrev S3x1x96 : Shape := ⟨3, ![3, 1, 96]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048x16x96 .f32) (main_arg1 : IVec S2048 32) (main_arg2 : FVec F S16x16x16x23 .f32) (main_arg3 : FVec F S16x16x4 .f32) (main_arg4 : FVec F S16x1 .f32) (main_arg5 : FVec F S3x23x96 .f32) (main_arg6 : FVec F S3x4x96 .f32) (main_arg7 : FVec F S3x1x96 .f32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 3#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Kernel.lean ====
abbrev S2048x16x96 : Shape := ⟨3, ![2048, 16, 96]⟩
abbrev S2048 : Shape := ⟨1, ![2048]⟩
abbrev S16x16x16x23 : Shape := ⟨4, ![16, 16, 16, 23]⟩
abbrev S16x16x4 : Shape := ⟨3, ![16, 16, 4]⟩
abbrev S16x1 : Shape := ⟨2, ![16, 1]⟩
abbrev S3x23x96 : Shape := ⟨3, ![3, 23, 96]⟩
abbrev S3x4x96 : Shape := ⟨3, ![3, 4, 96]⟩
abbrev S3x1x96 : Shape := ⟨3, ![3, 1, 96]⟩
abbrev S136 : Shape := ⟨1, ![136]⟩
abbrev S2176x1 : Shape := ⟨2, ![2176, 1]⟩
abbrev S136x1 : Shape := ⟨2, ![136, 1]⟩
abbrev S136x16 : Shape := ⟨2, ![136, 16]⟩
abbrev S_ : Shape := ⟨0, ![]⟩
abbrev S136x2 : Shape := ⟨2, ![136, 2]⟩
abbrev S136x16x23 : Shape := ⟨3, ![136, 16, 23]⟩
abbrev S16x136x23 : Shape := ⟨3, ![16, 136, 23]⟩
abbrev S1x16x136x23 : Shape := ⟨4, ![1, 16, 136, 23]⟩
abbrev S6x16x136x23 : Shape := ⟨4, ![6, 16, 136, 23]⟩
abbrev S6x2176x23 : Shape := ⟨3, ![6, 2176, 23]⟩
abbrev S136x4 : Shape := ⟨2, ![136, 4]⟩
abbrev S3x2176x96 : Shape := ⟨3, ![3, 2176, 96]⟩
abbrev S3x136x96 : Shape := ⟨3, ![3, 136, 96]⟩
abbrev S3x16x96 : Shape := ⟨3, ![3, 16, 96]⟩
abbrev S1x2176x23 : Shape := ⟨3, ![1, 2176, 23]⟩
abbrev S2176x23 : Shape := ⟨2, ![2176, 23]⟩
abbrev S1x23x96 : Shape := ⟨3, ![1, 23, 96]⟩
abbrev S23x96 : Shape := ⟨2, ![23, 96]⟩
abbrev S2176x96 : Shape := ⟨2, ![2176, 96]⟩
abbrev S1x2176x96 : Shape := ⟨3, ![1, 2176, 96]⟩
abbrev S1x4x96 : Shape := ⟨3, ![1, 4, 96]⟩
abbrev S4x96 : Shape := ⟨2, ![4, 96]⟩
abbrev S136x96 : Shape := ⟨2, ![136, 96]⟩
abbrev S1x136x96 : Shape := ⟨3, ![1, 136, 96]⟩
abbrev S1x1x96 : Shape := ⟨3, ![1, 1, 96]⟩
abbrev S1x96 : Shape := ⟨2, ![1, 96]⟩
abbrev S16x96 : Shape := ⟨2, ![16, 96]⟩
abbrev S1x16x96 : Shape := ⟨3, ![1, 16, 96]⟩
abbrev S3x16x136x96 : Shape := ⟨4, ![3, 16, 136, 96]⟩
abbrev S2048x1 : Shape := ⟨2, ![2048, 1]⟩
abbrev S2048x96 : Shape := ⟨2, ![2048, 96]⟩
abbrev S8x1 : Shape := ⟨2, ![8, 1]⟩
abbrev S8x16x96 : Shape := ⟨3, ![8, 16, 96]⟩
abbrev S8x96 : Shape := ⟨2, ![8, 96]⟩
abbrev S1x152 : Shape := ⟨2, ![1, 152]⟩
abbrev S1x1 : Shape := ⟨2, ![1, 1]⟩
abbrev S1x1x8x96 : Shape := ⟨4, ![1, 1, 8, 96]⟩
abbrev S96 : Shape := ⟨1, ![96]⟩
abbrev S128x96 : Shape := ⟨2, ![128, 96]⟩
abbrev S1x1x16x96 : Shape := ⟨4, ![1, 1, 16, 96]⟩
abbrev S120x96 : Shape := ⟨2, ![120, 96]⟩
abbrev S24x96 : Shape := ⟨2, ![24, 96]⟩
abbrev S1x1x24x96 : Shape := ⟨4, ![1, 1, 24, 96]⟩
abbrev S112x96 : Shape := ⟨2, ![112, 96]⟩
abbrev S32x96 : Shape := ⟨2, ![32, 96]⟩
abbrev S1x1x32x96 : Shape := ⟨4, ![1, 1, 32, 96]⟩
abbrev S104x96 : Shape := ⟨2, ![104, 96]⟩
abbrev S40x96 : Shape := ⟨2, ![40, 96]⟩
abbrev S1x1x40x96 : Shape := ⟨4, ![1, 1, 40, 96]⟩
abbrev S96x96 : Shape := ⟨2, ![96, 96]⟩
abbrev S48x96 : Shape := ⟨2, ![48, 96]⟩
abbrev S1x1x48x96 : Shape := ⟨4, ![1, 1, 48, 96]⟩
abbrev S88x96 : Shape := ⟨2, ![88, 96]⟩
abbrev S56x96 : Shape := ⟨2, ![56, 96]⟩
abbrev S1x1x56x96 : Shape := ⟨4, ![1, 1, 56, 96]⟩
abbrev S80x96 : Shape := ⟨2, ![80, 96]⟩
abbrev S72x96 : Shape := ⟨2, ![72, 96]⟩
abbrev S1x1x72x96 : Shape := ⟨4, ![1, 1, 72, 96]⟩
abbrev S64x96 : Shape := ⟨2, ![64, 96]⟩
abbrev S1x1x80x96 : Shape := ⟨4, ![1, 1, 80, 96]⟩
abbrev S1x1x96x96 : Shape := ⟨4, ![1, 1, 96, 96]⟩
abbrev S1x1x112x96 : Shape := ⟨4, ![1, 1, 112, 96]⟩
abbrev S1x1x120x96 : Shape := ⟨4, ![1, 1, 120, 96]⟩
abbrev S1x1x136x96 : Shape := ⟨4, ![1, 1, 136, 96]⟩
abbrev S152x96 : Shape := ⟨2, ![152, 96]⟩

abbrev nBuf : Space → Nat
  | .hbm => 156
  | .vmem => 21
  | .smem => 0
  | _ => 0

abbrev hbmTy0_0 (i : Nat) : BufTy := match i % 128 with
  | 0 => ⟨S2048x16x96, .f32⟩
  | 1 => ⟨S2048, .i32⟩
  | 2 => ⟨S16x16x16x23, .f32⟩
  | 3 => ⟨S16x16x4, .f32⟩
  | 4 => ⟨S16x1, .f32⟩
  | 5 => ⟨S3x23x96, .f32⟩
  | 6 => ⟨S3x4x96, .f32⟩
  | 7 => ⟨S3x1x96, .f32⟩
  | 8 => ⟨S136, .i32⟩
  | 9 => ⟨S136, .i1⟩
  | 10 => ⟨S136, .i32⟩
  | 11 => ⟨S136, .i1⟩
  | 12 => ⟨S136, .i1⟩
  | 13 => ⟨S136, .i1⟩
  | 14 => ⟨S136, .i1⟩
  | 15 => ⟨S136, .i1⟩
  | 16 => ⟨S136, .i1⟩
  | 17 => ⟨S136, .i1⟩
  | 18 => ⟨S136, .i1⟩
  | 19 => ⟨S136, .i1⟩
  | 20 => ⟨S136, .i1⟩
  | 21 => ⟨S136, .i1⟩
  | 22 => ⟨S2176x1, .f32⟩
  | 23 => ⟨S2176x1, .f32⟩
  | 24 => ⟨S136, .i1⟩
  | 25 => ⟨S136, .i1⟩
  | 26 => ⟨S136, .i1⟩
  | 27 => ⟨S136, .i1⟩
  | 28 => ⟨S136x1, .f32⟩
  | 29 => ⟨S136x16, .f32⟩
  | 30 => ⟨S136x16, .f32⟩
  | 31 => ⟨S_, .i32⟩
  | 32 => ⟨S136, .i32⟩
  | 33 => ⟨S136, .i32⟩
  | 34 => ⟨S136, .i32⟩
  | 35 => ⟨S_, .i32⟩
  | 36 => ⟨S136, .i32⟩
  | 37 => ⟨S136, .i32⟩
  | 38 => ⟨S136, .i32⟩
  | 39 => ⟨S136x1, .i32⟩
  | 40 => ⟨S136x1, .i32⟩
  | 41 => ⟨S136x2, .i32⟩
  | 42 => ⟨S136x16x23, .f32⟩
  | 43 => ⟨S16x136x23, .f32⟩
  | 44 => ⟨S16x16x16x23, .f32⟩
  | 45 => ⟨S_, .i32⟩
  | 46 => ⟨S136, .i32⟩
  | 47 => ⟨S136, .i32⟩
  | 48 => ⟨S136, .i32⟩
  | 49 => ⟨S_, .i32⟩
  | 50 => ⟨S136, .i32⟩
  | 51 => ⟨S136, .i32⟩
  | 52 => ⟨S136, .i32⟩
  | 53 => ⟨S136x1, .i32⟩
  | 54 => ⟨S136x1, .i32⟩
  | 55 => ⟨S136x2, .i32⟩
  | 56 => ⟨S136x16x23, .f32⟩
  | 57 => ⟨S16x136x23, .f32⟩
  | 58 => ⟨S16x16x16x23, .f32⟩
  | 59 => ⟨S_, .i32⟩
  | 60 => ⟨S136, .i32⟩
  | 61 => ⟨S136, .i32⟩
  | 62 => ⟨S136, .i32⟩
  | 63 => ⟨S_, .i32⟩
  | 64 => ⟨S136, .i32⟩
  | 65 => ⟨S136, .i32⟩
  | 66 => ⟨S136, .i32⟩
  | 67 => ⟨S136x1, .i32⟩
  | 68 => ⟨S136x1, .i32⟩
  | 69 => ⟨S136x2, .i32⟩
  | 70 => ⟨S136x16x23, .f32⟩
  | 71 => ⟨S16x136x23, .f32⟩
  | 72 => ⟨S16x16x16x23, .f32⟩
  | 73 => ⟨S_, .i32⟩
  | 74 => ⟨S136, .i32⟩
  | 75 => ⟨S136, .i32⟩
  | 76 => ⟨S136, .i32⟩
  | 77 => ⟨S_, .i32⟩
  | 78 => ⟨S136, .i32⟩
  | 79 => ⟨S136, .i32⟩
  | 80 => ⟨S136, .i32⟩
  | 81 => ⟨S136x1, .i32⟩
  | 82 => ⟨S136x1, .i32⟩
  | 83 => ⟨S136x2, .i32⟩
  | 84 => ⟨S136x16x23, .f32⟩
  | 85 => ⟨S16x136x23, .f32⟩
  | 86 => ⟨S16x16x16x23, .f32⟩
  | 87 => ⟨S_, .i32⟩
  | 88 => ⟨S136, .i32⟩
  | 89 => ⟨S136, .i32⟩
  | 90 => ⟨S136, .i32⟩
  | 91 => ⟨S_, .i32⟩
  | 92 => ⟨S136, .i32⟩
  | 93 => ⟨S136, .i32⟩
  | 94 => ⟨S136, .i32⟩
  | 95 => ⟨S136x1, .i32⟩
  | 96 => ⟨S136x1, .i32⟩
  | 97 => ⟨S136x2, .i32⟩
  | 98 => ⟨S136x16x23, .f32⟩
  | 99 => ⟨S16x136x23, .f32⟩
  | 100 => ⟨S16x16x16x23, .f32⟩
  | 101 => ⟨S_, .i32⟩
  | 102 => ⟨S136, .i32⟩
  | 103 => ⟨S136, .i32⟩
  | 104 => ⟨S136, .i32⟩
  | 105 => ⟨S_, .i32⟩
  | 106 => ⟨S136, .i32⟩
  | 107 => ⟨S136, .i32⟩
  | 108 => ⟨S136, .i32⟩
  | 109 => ⟨S136x1, .i32⟩
  | 110 => ⟨S136x1, .i32⟩
  | 111 => ⟨S136x2, .i32⟩
  | 112 => ⟨S136x16x23, .f32⟩
  | 113 => ⟨S16x136x23, .f32⟩
  | 114 => ⟨S1x16x136x23, .f32⟩
  | 115 => ⟨S1x16x136x23, .f32⟩
  | 116 => ⟨S1x16x136x23, .f32⟩
  | 117 => ⟨S1x16x136x23, .f32⟩
  | 118 => ⟨S1x16x136x23, .f32⟩
  | 119 => ⟨S1x16x136x23, .f32⟩
  | 120 => ⟨S6x16x136x23, .f32⟩
  | 121 => ⟨S6x2176x23, .f32⟩
  | 122 => ⟨S2176x1, .f32⟩
  | 123 => ⟨S_, .i32⟩
  | 124 => ⟨S136, .i32⟩
  | 125 => ⟨S136, .i32⟩
  | 126 => ⟨S136, .i32⟩
  | 127 => ⟨S_, .i32⟩
  | _ => ⟨S2048x16x96, .f32⟩

abbrev hbmTy0_1 (i : Nat) : BufTy := match i % 128 with
  | 0 => ⟨S136, .i32⟩
  | 1 => ⟨S136, .i32⟩
  | 2 => ⟨S136, .i32⟩
  | 3 => ⟨S136x1, .i32⟩
  | 4 => ⟨S136x1, .i32⟩
  | 5 => ⟨S136x2, .i32⟩
  | 6 => ⟨S136x4, .f32⟩
  | 7 => ⟨S_, .i32⟩
  | 8 => ⟨S136, .i32⟩
  | 9 => ⟨S136, .i32⟩
  | 10 => ⟨S136, .i32⟩
  | 11 => ⟨S_, .i32⟩
  | 12 => ⟨S136, .i32⟩
  | 13 => ⟨S136, .i32⟩
  | 14 => ⟨S136, .i32⟩
  | 15 => ⟨S136x1, .i32⟩
  | 16 => ⟨S136x1, .i32⟩
  | 17 => ⟨S136x2, .i32⟩
  | 18 => ⟨S136x4, .f32⟩
  | 19 => ⟨S136x4, .f32⟩
  | 20 => ⟨S136x4, .f32⟩
  | 21 => ⟨S136x4, .f32⟩
  | 22 => ⟨S3x2176x96, .f32⟩
  | 23 => ⟨S3x136x96, .f32⟩
  | 24 => ⟨S3x16x96, .f32⟩
  | 25 => ⟨S3x16x136x96, .f32⟩
  | 26 => ⟨S2048x1, .i32⟩
  | 27 => ⟨S2048x96, .f32⟩
  | _ => ⟨S2048x16x96, .f32⟩

abbrev hbmTy (i : Nat) : BufTy := match i / 128 with
  | 0 => hbmTy0_0 i
  | 1 => hbmTy0_1 i
  | _ => ⟨S2048x16x96, .f32⟩

abbrev bufTy : (tb : Table) → Fin (tcTables nBuf tb) → BufTy
  | .hbm, ⟨i, _⟩ => hbmTy i
  | .local _ .vmem, ⟨0, _⟩ => ⟨S6x2176x23, .f32⟩
  | .local _ .vmem, ⟨1, _⟩ => ⟨S2176x1, .f32⟩
  | .local _ .vmem, ⟨2, _⟩ => ⟨S136x4, .f32⟩
  | .local _ .vmem, ⟨3, _⟩ => ⟨S16x1, .f32⟩
  | .local _ .vmem, ⟨4, _⟩ => ⟨S3x23x96, .f32⟩
  | .local _ .vmem, ⟨5, _⟩ => ⟨S3x4x96, .f32⟩
  | .local _ .vmem, ⟨6, _⟩ => ⟨S3x1x96, .f32⟩
  | .local _ .vmem, ⟨7, _⟩ => ⟨S3x2176x96, .f32⟩
  | .local _ .vmem, ⟨8, _⟩ => ⟨S3x136x96, .f32⟩
  | .local _ .vmem, ⟨9, _⟩ => ⟨S3x16x96, .f32⟩
  | .local _ .vmem, ⟨10, _⟩ => ⟨S8x1, .i32⟩
  | .local _ .vmem, ⟨11, _⟩ => ⟨S8x1, .i32⟩
  | .local _ .vmem, ⟨12, _⟩ => ⟨S8x16x96, .f32⟩
  | .local _ .vmem, ⟨13, _⟩ => ⟨S8x16x96, .f32⟩
  | .local _ .vmem, ⟨14, _⟩ => ⟨S3x16x136x96, .f32⟩
  | .local _ .vmem, ⟨15, _⟩ => ⟨S3x136x96, .f32⟩
  | .local _ .vmem, ⟨16, _⟩ => ⟨S3x16x96, .f32⟩
  | .local _ .vmem, ⟨17, _⟩ => ⟨S136x16, .f32⟩
  | .local _ .vmem, ⟨18, _⟩ => ⟨S136x16, .f32⟩
  | .local _ .vmem, ⟨19, _⟩ => ⟨S8x96, .f32⟩
  | .local _ .vmem, ⟨20, _⟩ => ⟨S8x96, .f32⟩
  | _, _ => ⟨S2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_c_7 : Ref sig .tc := ⟨.hbm, 16, rfl⟩
abbrev main_c_8 : Ref sig .tc := ⟨.hbm, 17, rfl⟩
abbrev main_c_9 : Ref sig .tc := ⟨.hbm, 18, rfl⟩
abbrev main_c_10 : Ref sig .tc := ⟨.hbm, 19, rfl⟩
abbrev main_c_11 : Ref sig .tc := ⟨.hbm, 20, rfl⟩
abbrev main_c_12 : Ref sig .tc := ⟨.hbm, 21, rfl⟩
abbrev main_cst : Ref sig .tc := ⟨.hbm, 22, rfl⟩
abbrev main_cst_13 : Ref sig .tc := ⟨.hbm, 23, rfl⟩
abbrev main_c_14 : Ref sig .tc := ⟨.hbm, 24, rfl⟩
abbrev main_c_15 : Ref sig .tc := ⟨.hbm, 25, rfl⟩
abbrev main_c_16 : Ref sig .tc := ⟨.hbm, 26, rfl⟩
abbrev main_c_17 : Ref sig .tc := ⟨.hbm, 27, rfl⟩
abbrev main_cst_18 : Ref sig .tc := ⟨.hbm, 28, rfl⟩
abbrev main_cst_19 : Ref sig .tc := ⟨.hbm, 29, rfl⟩
abbrev main_cst_20 : Ref sig .tc := ⟨.hbm, 30, rfl⟩
abbrev main_c_21 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_c_22 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_c_23 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_24 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_25 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c_26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_27 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_28 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_29 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_30 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_31 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_32 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_33 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_34 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_35 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_36 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103_0 : Ref sig .tc := ⟨.hbm, 150, rfl⟩
abbrev main_v103_1 : Ref sig .tc := ⟨.hbm, 151, rfl⟩
abbrev main_v103_2 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := .none

abbrev stage0_0 : Fin 1 → Memref sig .tc .vmem S6x2176x23 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2176x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S136x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x23x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2176x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x136x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x16x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![256], ![false]⟩

def k1_off1 (v2 : BitVec 32) : Fin 3 → Nat :=
  let v9 : Index := Scalar.indexCast v2
  let c0_10 : Index := 0#32
  let c0_11 : Index := 0#32
  ![v9.toNat, 0, 0]

def k1_off2 (v2 : BitVec 32) : Fin 4 → Nat :=
  let v13 : Index := Scalar.indexCast v2
  let c0_12 : Index := 0#32
  let c0_13 : Index := 0#32
  let c0_14 : Index := 0#32
  ![v13.toNat, 0, 0, 0]
def k1_off3 (v2 : BitVec 32) : Fin 4 → Nat :=
  let v25 : Index := Scalar.indexCast v2
  let c1 : Index := 1#32
  let c0_15 : Index := 0#32
  let c0_16 : Index := 0#32
  ![v25.toNat, 1, 0, 0]
def k1_off4 (v2 : BitVec 32) : Fin 4 → Nat :=
  let v37 : Index := Scalar.indexCast v2
  let c2 : Index := 2#32
  let c0_17 : Index := 0#32
  let c0_18 : Index := 0#32
  ![v37.toNat, 2, 0, 0]
def k1_off5 (v2 : BitVec 32) : Fin 4 → Nat :=
  let v49 : Index := Scalar.indexCast v2
  let c3 : Index := 3#32
  let c0_19 : Index := 0#32
  let c0_20 : Index := 0#32
  ![v49.toNat, 3, 0, 0]
def k1_off6 (v2 : BitVec 32) : Fin 4 → Nat :=
  let v61 : Index := Scalar.indexCast v2
  let c4 : Index := 4#32
  let c0_21 : Index := 0#32
  let c0_22 : Index := 0#32
  ![v61.toNat, 4, 0, 0]
def k1_off7 (v2 : BitVec 32) : Fin 4 → Nat :=
  let v73 : Index := Scalar.indexCast v2
  let c5 : Index := 5#32
  let c0_23 : Index := 0#32
  let c0_24 : Index := 0#32
  ![v73.toNat, 5, 0, 0]
def k1_off8 (v2 : BitVec 32) : Fin 4 → Nat :=
  let v85 : Index := Scalar.indexCast v2
  let c6 : Index := 6#32
  let c0_25 : Index := 0#32
  let c0_26 : Index := 0#32
  ![v85.toNat, 6, 0, 0]
def k1_off9 (v2 : BitVec 32) : Fin 4 → Nat :=
  let v97 : Index := Scalar.indexCast v2
  let c7 : Index := 7#32
  let c0_27 : Index := 0#32
  let c0_28 : Index := 0#32
  ![v97.toNat, 7, 0, 0]
def k1_off10 (v2 : BitVec 32) : Fin 4 → Nat :=
  let v109 : Index := Scalar.indexCast v2
  let c8 : Index := 8#32
  let c0_29 : Index := 0#32
  let c0_30 : Index := 0#32
  ![v109.toNat, 8, 0, 0]
def k1_off11 (v2 : BitVec 32) : Fin 4 → Nat :=
  let v121 : Index := Scalar.indexCast v2
  let c9 : Index := 9#32
  let c0_31 : Index := 0#32
  let c0_32 : Index := 0#32
  ![v121.toNat, 9, 0, 0]
def k1_off12 (v2 : BitVec 32) : Fin 4 → Nat :=
  let v133 : Index := Scalar.indexCast v2
  let c10 : Index := 10#32
  let c0_33 : Index := 0#32
  let c0_34 : Index := 0#32
  ![v133.toNat, 10, 0, 0]
def k1_off13 (v2 : BitVec 32) : Fin 4 → Nat :=
  let v145 : Index := Scalar.indexCast v2
  let c11 : Index := 11#32
  let c0_35 : Index := 0#32
  let c0_36 : Index := 0#32
  ![v145.toNat, 11, 0, 0]
def k1_off14 (v2 : BitVec 32) : Fin 4 → Nat :=
  let v157 : Index := Scalar.indexCast v2
  let c12 : Index := 12#32
  let c0_37 : Index := 0#32
  let c0_38 : Index := 0#32
  ![v157.toNat, 12, 0, 0]
def k1_off15 (v2 : BitVec 32) : Fin 4 → Nat :=
  let v169 : Index := Scalar.indexCast v2
  let c13 : Index := 13#32
  let c0_39 : Index := 0#32
  let c0_40 : Index := 0#32
  ![v169.toNat, 13, 0, 0]
def k1_off16 (v2 : BitVec 32) : Fin 4 → Nat :=
  let v181 : Index := Scalar.indexCast v2
  let c14 : Index := 14#32
  let c0_41 : Index := 0#32
  let c0_42 : Index := 0#32
  ![v181.toNat, 14, 0, 0]
def k1_off17 (v2 : BitVec 32) : Fin 4 → Nat :=
  let v192 : Index := Scalar.indexCast v2
  let c15 : Index := 15#32
  let c0_43 : Index := 0#32
  let c0_44 : Index := 0#32
  ![v192.toNat, 15, 0, 0]
def k1_off18 (v2 : BitVec 32) : Fin 3 → Nat :=
  let v203 : Index := Scalar.indexCast v2
  let c0_45 : Index := 0#32
  let c0_46 : Index := 0#32
  ![v203.toNat, 0, 0]

def k1_chk1 (v2 : BitVec 32) : Prop :=
  (∀ a, (k1_off1 v2) a + S1x136x96.size a ≤ S3x136x96.size a) ∧
  (∀ a, (k1_off2 v2) a + S1x1x8x96.size a ≤ S3x16x136x96.size a) ∧
  (∀ a, (k1_off3 v2) a + S1x1x8x96.size a ≤ S3x16x136x96.size a) ∧
  (∀ a, (k1_off4 v2) a + S1x1x8x96.size a ≤ S3x16x136x96.size a) ∧
  (∀ a, (k1_off5 v2) a + S1x1x16x96.size a ≤ S3x16x136x96.size a) ∧
  (∀ a, (k1_off6 v2) a + S1x1x16x96.size a ≤ S3x16x136x96.size a) ∧
  (∀ a, (k1_off7 v2) a + S1x1x24x96.size a ≤ S3x16x136x96.size a) ∧
  (∀ a, (k1_off8 v2) a + S1x1x32x96.size a ≤ S3x16x136x96.size a) ∧
  (∀ a, (k1_off9 v2) a + S1x1x40x96.size a ≤ S3x16x136x96.size a) ∧
  (∀ a, (k1_off10 v2) a + S1x1x48x96.size a ≤ S3x16x136x96.size a) ∧
  (∀ a, (k1_off11 v2) a + S1x1x56x96.size a ≤ S3x16x136x96.size a) ∧
  (∀ a, (k1_off12 v2) a + S1x1x72x96.size a ≤ S3x16x136x96.size a) ∧
  (∀ a, (k1_off13 v2) a + S1x1x80x96.size a ≤ S3x16x136x96.size a) ∧
  (∀ a, (k1_off14 v2) a + S1x1x96x96.size a ≤ S3x16x136x96.size a) ∧
  (∀ a, (k1_off15 v2) a + S1x1x112x96.size a ≤ S3x16x136x96.size a) ∧
  (∀ a, (k1_off16 v2) a + S1x1x120x96.size a ≤ S3x16x136x96.size a) ∧
  (∀ a, (k1_off17 v2) a + S1x1x136x96.size a ≤ S3x16x136x96.size a) ∧
  (∀ a, (k1_off18 v2) a + S1x16x96.size a ≤ S3x16x96.size a)
theorem k1_off1_inb : ∀ (v2 : BitVec 32) (k1_hw1 : k1_chk1 v2), ∀ a, (k1_off1 v2) a + S1x136x96.size a ≤ S3x136x96.size a := fun v2 k1_hw1 => k1_hw1.1
theorem k1_off2_inb : ∀ (v2 : BitVec 32) (k1_hw1 : k1_chk1 v2), ∀ a, (k1_off2 v2) a + S1x1x8x96.size a ≤ S3x16x136x96.size a := fun v2 k1_hw1 => k1_hw1.2.1
theorem k1_off3_inb : ∀ (v2 : BitVec 32) (k1_hw1 : k1_chk1 v2), ∀ a, (k1_off3 v2) a + S1x1x8x96.size a ≤ S3x16x136x96.size a := fun v2 k1_hw1 => k1_hw1.2.2.1
theorem k1_off4_inb : ∀ (v2 : BitVec 32) (k1_hw1 : k1_chk1 v2), ∀ a, (k1_off4 v2) a + S1x1x8x96.size a ≤ S3x16x136x96.size a := fun v2 k1_hw1 => k1_hw1.2.2.2.1
theorem k1_off5_inb : ∀ (v2 : BitVec 32) (k1_hw1 : k1_chk1 v2), ∀ a, (k1_off5 v2) a + S1x1x16x96.size a ≤ S3x16x136x96.size a := fun v2 k1_hw1 => k1_hw1.2.2.2.2.1
theorem k1_off6_inb : ∀ (v2 : BitVec 32) (k1_hw1 : k1_chk1 v2), ∀ a, (k1_off6 v2) a + S1x1x16x96.size a ≤ S3x16x136x96.size a := fun v2 k1_hw1 => k1_hw1.2.2.2.2.2.1
theorem k1_off7_inb : ∀ (v2 : BitVec 32) (k1_hw1 : k1_chk1 v2), ∀ a, (k1_off7 v2) a + S1x1x24x96.size a ≤ S3x16x136x96.size a := fun v2 k1_hw1 => k1_hw1.2.2.2.2.2.2.1
theorem k1_off8_inb : ∀ (v2 : BitVec 32) (k1_hw1 : k1_chk1 v2), ∀ a, (k1_off8 v2) a + S1x1x32x96.size a ≤ S3x16x136x96.size a := fun v2 k1_hw1 => k1_hw1.2.2.2.2.2.2.2.1
theorem k1_off9_inb : ∀ (v2 : BitVec 32) (k1_hw1 : k1_chk1 v2), ∀ a, (k1_off9 v2) a + S1x1x40x96.size a ≤ S3x16x136x96.size a := fun v2 k1_hw1 => k1_hw1.2.2.2.2.2.2.2.2.1
theorem k1_off10_inb : ∀ (v2 : BitVec 32) (k1_hw1 : k1_chk1 v2), ∀ a, (k1_off10 v2) a + S1x1x48x96.size a ≤ S3x16x136x96.size a := fun v2 k1_hw1 => k1_hw1.2.2.2.2.2.2.2.2.2.1
theorem k1_off11_inb : ∀ (v2 : BitVec 32) (k1_hw1 : k1_chk1 v2), ∀ a, (k1_off11 v2) a + S1x1x56x96.size a ≤ S3x16x136x96.size a := fun v2 k1_hw1 => k1_hw1.2.2.2.2.2.2.2.2.2.2.1
theorem k1_off12_inb : ∀ (v2 : BitVec 32) (k1_hw1 : k1_chk1 v2), ∀ a, (k1_off12 v2) a + S1x1x72x96.size a ≤ S3x16x136x96.size a := fun v2 k1_hw1 => k1_hw1.2.2.2.2.2.2.2.2.2.2.2.1
theorem k1_off13_inb : ∀ (v2 : BitVec 32) (k1_hw1 : k1_chk1 v2), ∀ a, (k1_off13 v2) a + S1x1x80x96.size a ≤ S3x16x136x96.size a := fun v2 k1_hw1 => k1_hw1.2.2.2.2.2.2.2.2.2.2.2.2.1
theorem k1_off14_inb : ∀ (v2 : BitVec 32) (k1_hw1 : k1_chk1 v2), ∀ a, (k1_off14 v2) a + S1x1x96x96.size a ≤ S3x16x136x96.size a := fun v2 k1_hw1 => k1_hw1.2.2.2.2.2.2.2.2.2.2.2.2.2.1
theorem k1_off15_inb : ∀ (v2 : BitVec 32) (k1_hw1 : k1_chk1 v2), ∀ a, (k1_off15 v2) a + S1x1x112x96.size a ≤ S3x16x136x96.size a := fun v2 k1_hw1 => k1_hw1.2.2.2.2.2.2.2.2.2.2.2.2.2.2.1
theorem k1_off16_inb : ∀ (v2 : BitVec 32) (k1_hw1 : k1_chk1 v2), ∀ a, (k1_off16 v2) a + S1x1x120x96.size a ≤ S3x16x136x96.size a := fun v2 k1_hw1 => k1_hw1.2.2.2.2.2.2.2.2.2.2.2.2.2.2.2.1
theorem k1_off17_inb : ∀ (v2 : BitVec 32) (k1_hw1 : k1_chk1 v2), ∀ a, (k1_off17 v2) a + S1x1x136x96.size a ≤ S3x16x136x96.size a := fun v2 k1_hw1 => k1_hw1.2.2.2.2.2.2.2.2.2.2.2.2.2.2.2.2.1
theorem k1_off18_inb : ∀ (v2 : BitVec 32) (k1_hw1 : k1_chk1 v2), ∀ a, (k1_off18 v2) a + S1x16x96.size a ≤ S3x16x96.size a := fun v2 k1_hw1 => k1_hw1.2.2.2.2.2.2.2.2.2.2.2.2.2.2.2.2.2

def k1_off19 (v214 : BitVec 32) : Fin 3 → Nat :=
  let v221 : Index := Scalar.indexCast v214
  let c0_61 : Index := 0#32
  let c0_62 : Index := 0#32
  ![v221.toNat, 0, 0]

def k1_off20 (v214 : BitVec 32) : Fin 4 → Nat :=
  let v225 : Index := Scalar.indexCast v214
  let c0_63 : Index := 0#32
  let c0_64 : Index := 0#32
  let c0_65 : Index := 0#32
  ![v225.toNat, 0, 0, 0]
def k1_off21 (v214 : BitVec 32) : Fin 4 → Nat :=
  let v237 : Index := Scalar.indexCast v214
  let c1_66 : Index := 1#32
  let c0_67 : Index := 0#32
  let c0_68 : Index := 0#32
  ![v237.toNat, 1, 0, 0]
def k1_off22 (v214 : BitVec 32) : Fin 4 → Nat :=
  let v249 : Index := Scalar.indexCast v214
  let c2_69 : Index := 2#32
  let c0_70 : Index := 0#32
  let c0_71 : Index := 0#32
  ![v249.toNat, 2, 0, 0]
def k1_off23 (v214 : BitVec 32) : Fin 4 → Nat :=
  let v261 : Index := Scalar.indexCast v214
  let c3_72 : Index := 3#32
  let c0_73 : Index := 0#32
  let c0_74 : Index := 0#32
  ![v261.toNat, 3, 0, 0]
def k1_off24 (v214 : BitVec 32) : Fin 4 → Nat :=
  let v273 : Index := Scalar.indexCast v214
  let c4_75 : Index := 4#32
  let c0_76 : Index := 0#32
  let c0_77 : Index := 0#32
  ![v273.toNat, 4, 0, 0]
def k1_off25 (v214 : BitVec 32) : Fin 4 → Nat :=
  let v285 : Index := Scalar.indexCast v214
  let c5_78 : Index := 5#32
  let c0_79 : Index := 0#32
  let c0_80 : Index := 0#32
  ![v285.toNat, 5, 0, 0]
def k1_off26 (v214 : BitVec 32) : Fin 4 → Nat :=
  let v297 : Index := Scalar.indexCast v214
  let c6_81 : Index := 6#32
  let c0_82 : Index := 0#32
  let c0_83 : Index := 0#32
  ![v297.toNat, 6, 0, 0]
def k1_off27 (v214 : BitVec 32) : Fin 4 → Nat :=
  let v309 : Index := Scalar.indexCast v214
  let c7_84 : Index := 7#32
  let c0_85 : Index := 0#32
  let c0_86 : Index := 0#32
  ![v309.toNat, 7, 0, 0]
def k1_off28 (v214 : BitVec 32) : Fin 4 → Nat :=
  let v321 : Index := Scalar.indexCast v214
  let c8_87 : Index := 8#32
  let c0_88 : Index := 0#32
  let c0_89 : Index := 0#32
  ![v321.toNat, 8, 0, 0]
def k1_off29 (v214 : BitVec 32) : Fin 4 → Nat :=
  let v333 : Index := Scalar.indexCast v214
  let c9_90 : Index := 9#32
  let c0_91 : Index := 0#32
  let c0_92 : Index := 0#32
  ![v333.toNat, 9, 0, 0]
def k1_off30 (v214 : BitVec 32) : Fin 4 → Nat :=
  let v345 : Index := Scalar.indexCast v214
  let c10_93 : Index := 10#32
  let c0_94 : Index := 0#32
  let c0_95 : Index := 0#32
  ![v345.toNat, 10, 0, 0]
def k1_off31 (v214 : BitVec 32) : Fin 4 → Nat :=
  let v357 : Index := Scalar.indexCast v214
  let c11_96 : Index := 11#32
  let c0_97 : Index := 0#32
  let c0_98 : Index := 0#32
  ![v357.toNat, 11, 0, 0]
def k1_off32 (v214 : BitVec 32) : Fin 4 → Nat :=
  let v369 : Index := Scalar.indexCast v214
  let c12_99 : Index := 12#32
  let c0_100 : Index := 0#32
  let c0_101 : Index := 0#32
  ![v369.toNat, 12, 0, 0]
def k1_off33 (v214 : BitVec 32) : Fin 4 → Nat :=
  let v381 : Index := Scalar.indexCast v214
  let c13_102 : Index := 13#32
  let c0_103 : Index := 0#32
  let c0_104 : Index := 0#32
  ![v381.toNat, 13, 0, 0]
def k1_off34 (v214 : BitVec 32) : Fin 4 → Nat :=
  let v393 : Index := Scalar.indexCast v214
  let c14_105 : Index := 14#32
  let c0_106 : Index := 0#32
  let c0_107 : Index := 0#32
  ![v393.toNat, 14, 0, 0]
def k1_off35 (v214 : BitVec 32) : Fin 4 → Nat :=
  let v404 : Index := Scalar.indexCast v214
  let c15_108 : Index := 15#32
  let c0_109 : Index := 0#32
  let c0_110 : Index := 0#32
  ![v404.toNat, 15, 0, 0]
def k1_off36 (v214 : BitVec 32) : Fin 3 → Nat :=
  let v415 : Index := Scalar.indexCast v214
  let c0_111 : Index := 0#32
  let c0_112 : Index := 0#32
  ![v415.toNat, 0, 0]

def k1_chk2 (v214 : BitVec 32) : Prop :=
  (∀ a, (k1_off19 v214) a + S1x136x96.size a ≤ S3x136x96.size a) ∧
  (∀ a, (k1_off20 v214) a + S1x1x8x96.size a ≤ S3x16x136x96.size a) ∧
  (∀ a, (k1_off21 v214) a + S1x1x8x96.size a ≤ S3x16x136x96.size a) ∧
  (∀ a, (k1_off22 v214) a + S1x1x8x96.size a ≤ S3x16x136x96.size a) ∧
  (∀ a, (k1_off23 v214) a + S1x1x16x96.size a ≤ S3x16x136x96.size a) ∧
  (∀ a, (k1_off24 v214) a + S1x1x16x96.size a ≤ S3x16x136x96.size a) ∧
  (∀ a, (k1_off25 v214) a + S1x1x24x96.size a ≤ S3x16x136x96.size a) ∧
  (∀ a, (k1_off26 v214) a + S1x1x32x96.size a ≤ S3x16x136x96.size a) ∧
  (∀ a, (k1_off27 v214) a + S1x1x40x96.size a ≤ S3x16x136x96.size a) ∧
  (∀ a, (k1_off28 v214) a + S1x1x48x96.size a ≤ S3x16x136x96.size a) ∧
  (∀ a, (k1_off29 v214) a + S1x1x56x96.size a ≤ S3x16x136x96.size a) ∧
  (∀ a, (k1_off30 v214) a + S1x1x72x96.size a ≤ S3x16x136x96.size a) ∧
  (∀ a, (k1_off31 v214) a + S1x1x80x96.size a ≤ S3x16x136x96.size a) ∧
  (∀ a, (k1_off32 v214) a + S1x1x96x96.size a ≤ S3x16x136x96.size a) ∧
  (∀ a, (k1_off33 v214) a + S1x1x112x96.size a ≤ S3x16x136x96.size a) ∧
  (∀ a, (k1_off34 v214) a + S1x1x120x96.size a ≤ S3x16x136x96.size a) ∧
  (∀ a, (k1_off35 v214) a + S1x1x136x96.size a ≤ S3x16x136x96.size a) ∧
  (∀ a, (k1_off36 v214) a + S1x16x96.size a ≤ S3x16x96.size a)
theorem k1_off19_inb : ∀ (v214 : BitVec 32) (k1_hw2 : k1_chk2 v214), ∀ a, (k1_off19 v214) a + S1x136x96.size a ≤ S3x136x96.size a := fun v214 k1_hw2 => k1_hw2.1
theorem k1_off20_inb : ∀ (v214 : BitVec 32) (k1_hw2 : k1_chk2 v214), ∀ a, (k1_off20 v214) a + S1x1x8x96.size a ≤ S3x16x136x96.size a := fun v214 k1_hw2 => k1_hw2.2.1
theorem k1_off21_inb : ∀ (v214 : BitVec 32) (k1_hw2 : k1_chk2 v214), ∀ a, (k1_off21 v214) a + S1x1x8x96.size a ≤ S3x16x136x96.size a := fun v214 k1_hw2 => k1_hw2.2.2.1
theorem k1_off22_inb : ∀ (v214 : BitVec 32) (k1_hw2 : k1_chk2 v214), ∀ a, (k1_off22 v214) a + S1x1x8x96.size a ≤ S3x16x136x96.size a := fun v214 k1_hw2 => k1_hw2.2.2.2.1
theorem k1_off23_inb : ∀ (v214 : BitVec 32) (k1_hw2 : k1_chk2 v214), ∀ a, (k1_off23 v214) a + S1x1x16x96.size a ≤ S3x16x136x96.size a := fun v214 k1_hw2 => k1_hw2.2.2.2.2.1
theorem k1_off24_inb : ∀ (v214 : BitVec 32) (k1_hw2 : k1_chk2 v214), ∀ a, (k1_off24 v214) a + S1x1x16x96.size a ≤ S3x16x136x96.size a := fun v214 k1_hw2 => k1_hw2.2.2.2.2.2.1
theorem k1_off25_inb : ∀ (v214 : BitVec 32) (k1_hw2 : k1_chk2 v214), ∀ a, (k1_off25 v214) a + S1x1x24x96.size a ≤ S3x16x136x96.size a := fun v214 k1_hw2 => k1_hw2.2.2.2.2.2.2.1
theorem k1_off26_inb : ∀ (v214 : BitVec 32) (k1_hw2 : k1_chk2 v214), ∀ a, (k1_off26 v214) a + S1x1x32x96.size a ≤ S3x16x136x96.size a := fun v214 k1_hw2 => k1_hw2.2.2.2.2.2.2.2.1
theorem k1_off27_inb : ∀ (v214 : BitVec 32) (k1_hw2 : k1_chk2 v214), ∀ a, (k1_off27 v214) a + S1x1x40x96.size a ≤ S3x16x136x96.size a := fun v214 k1_hw2 => k1_hw2.2.2.2.2.2.2.2.2.1
theorem k1_off28_inb : ∀ (v214 : BitVec 32) (k1_hw2 : k1_chk2 v214), ∀ a, (k1_off28 v214) a + S1x1x48x96.size a ≤ S3x16x136x96.size a := fun v214 k1_hw2 => k1_hw2.2.2.2.2.2.2.2.2.2.1
theorem k1_off29_inb : ∀ (v214 : BitVec 32) (k1_hw2 : k1_chk2 v214), ∀ a, (k1_off29 v214) a + S1x1x56x96.size a ≤ S3x16x136x96.size a := fun v214 k1_hw2 => k1_hw2.2.2.2.2.2.2.2.2.2.2.1
theorem k1_off30_inb : ∀ (v214 : BitVec 32) (k1_hw2 : k1_chk2 v214), ∀ a, (k1_off30 v214) a + S1x1x72x96.size a ≤ S3x16x136x96.size a := fun v214 k1_hw2 => k1_hw2.2.2.2.2.2.2.2.2.2.2.2.1
theorem k1_off31_inb : ∀ (v214 : BitVec 32) (k1_hw2 : k1_chk2 v214), ∀ a, (k1_off31 v214) a + S1x1x80x96.size a ≤ S3x16x136x96.size a := fun v214 k1_hw2 => k1_hw2.2.2.2.2.2.2.2.2.2.2.2.2.1
theorem k1_off32_inb : ∀ (v214 : BitVec 32) (k1_hw2 : k1_chk2 v214), ∀ a, (k1_off32 v214) a + S1x1x96x96.size a ≤ S3x16x136x96.size a := fun v214 k1_hw2 => k1_hw2.2.2.2.2.2.2.2.2.2.2.2.2.2.1
theorem k1_off33_inb : ∀ (v214 : BitVec 32) (k1_hw2 : k1_chk2 v214), ∀ a, (k1_off33 v214) a + S1x1x112x96.size a ≤ S3x16x136x96.size a := fun v214 k1_hw2 => k1_hw2.2.2.2.2.2.2.2.2.2.2.2.2.2.2.1
theorem k1_off34_inb : ∀ (v214 : BitVec 32) (k1_hw2 : k1_chk2 v214), ∀ a, (k1_off34 v214) a + S1x1x120x96.size a ≤ S3x16x136x96.size a := fun v214 k1_hw2 => k1_hw2.2.2.2.2.2.2.2.2.2.2.2.2.2.2.2.1
theorem k1_off35_inb : ∀ (v214 : BitVec 32) (k1_hw2 : k1_chk2 v214), ∀ a, (k1_off35 v214) a + S1x1x136x96.size a ≤ S3x16x136x96.size a := fun v214 k1_hw2 => k1_hw2.2.2.2.2.2.2.2.2.2.2.2.2.2.2.2.2.1
theorem k1_off36_inb : ∀ (v214 : BitVec 32) (k1_hw2 : k1_chk2 v214), ∀ a, (k1_off36 v214) a + S1x16x96.size a ≤ S3x16x96.size a := fun v214 k1_hw2 => k1_hw2.2.2.2.2.2.2.2.2.2.2.2.2.2.2.2.2.2

def k1_off37 (v426 : BitVec 32) : Fin 3 → Nat :=
  let v433 : Index := Scalar.indexCast v426
  let c0_127 : Index := 0#32
  let c0_128 : Index := 0#32
  ![v433.toNat, 0, 0]

def k1_off38 (v426 : BitVec 32) : Fin 4 → Nat :=
  let v437 : Index := Scalar.indexCast v426
  let c0_129 : Index := 0#32
  let c0_130 : Index := 0#32
  let c0_131 : Index := 0#32
  ![v437.toNat, 0, 0, 0]
def k1_off39 (v426 : BitVec 32) : Fin 4 → Nat :=
  let v449 : Index := Scalar.indexCast v426
  let c1_132 : Index := 1#32
  let c0_133 : Index := 0#32
  let c0_134 : Index := 0#32
  ![v449.toNat, 1, 0, 0]
def k1_off40 (v426 : BitVec 32) : Fin 4 → Nat :=
  let v461 : Index := Scalar.indexCast v426
  let c2_135 : Index := 2#32
  let c0_136 : Index := 0#32
  let c0_137 : Index := 0#32
  ![v461.toNat, 2, 0, 0]
def k1_off41 (v426 : BitVec 32) : Fin 4 → Nat :=
  let v473 : Index := Scalar.indexCast v426
  let c3_138 : Index := 3#32
  let c0_139 : Index := 0#32
  let c0_140 : Index := 0#32
  ![v473.toNat, 3, 0, 0]
def k1_off42 (v426 : BitVec 32) : Fin 4 → Nat :=
  let v485 : Index := Scalar.indexCast v426
  let c4_141 : Index := 4#32
  let c0_142 : Index := 0#32
  let c0_143 : Index := 0#32
  ![v485.toNat, 4, 0, 0]
def k1_off43 (v426 : BitVec 32) : Fin 4 → Nat :=
  let v497 : Index := Scalar.indexCast v426
  let c5_144 : Index := 5#32
  let c0_145 : Index := 0#32
  let c0_146 : Index := 0#32
  ![v497.toNat, 5, 0, 0]
def k1_off44 (v426 : BitVec 32) : Fin 4 → Nat :=
  let v509 : Index := Scalar.indexCast v426
  let c6_147 : Index := 6#32
  let c0_148 : Index := 0#32
  let c0_149 : Index := 0#32
  ![v509.toNat, 6, 0, 0]
def k1_off45 (v426 : BitVec 32) : Fin 4 → Nat :=
  let v521 : Index := Scalar.indexCast v426
  let c7_150 : Index := 7#32
  let c0_151 : Index := 0#32
  let c0_152 : Index := 0#32
  ![v521.toNat, 7, 0, 0]
def k1_off46 (v426 : BitVec 32) : Fin 4 → Nat :=
  let v533 : Index := Scalar.indexCast v426
  let c8_153 : Index := 8#32
  let c0_154 : Index := 0#32
  let c0_155 : Index := 0#32
  ![v533.toNat, 8, 0, 0]
def k1_off47 (v426 : BitVec 32) : Fin 4 → Nat :=
  let v545 : Index := Scalar.indexCast v426
  let c9_156 : Index := 9#32
  let c0_157 : Index := 0#32
  let c0_158 : Index := 0#32
  ![v545.toNat, 9, 0, 0]
def k1_off48 (v426 : BitVec 32) : Fin 4 → Nat :=
  let v557 : Index := Scalar.indexCast v426
  let c10_159 : Index := 10#32
  let c0_160 : Index := 0#32
  let c0_161 : Index := 0#32
  ![v557.toNat, 10, 0, 0]
def k1_off49 (v426 : BitVec 32) : Fin 4 → Nat :=
  let v569 : Index := Scalar.indexCast v426
  let c11_162 : Index := 11#32
  let c0_163 : Index := 0#32
  let c0_164 : Index := 0#32
  ![v569.toNat, 11, 0, 0]
def k1_off50 (v426 : BitVec 32) : Fin 4 → Nat :=
  let v581 : Index := Scalar.indexCast v426
  let c12_165 : Index := 12#32
  let c0_166 : Index := 0#32
  let c0_167 : Index := 0#32
  ![v581.toNat, 12, 0, 0]
def k1_off51 (v426 : BitVec 32) : Fin 4 → Nat :=
  let v593 : Index := Scalar.indexCast v426
  let c13_168 : Index := 13#32
  let c0_169 : Index := 0#32
  let c0_170 : Index := 0#32
  ![v593.toNat, 13, 0, 0]
def k1_off52 (v426 : BitVec 32) : Fin 4 → Nat :=
  let v605 : Index := Scalar.indexCast v426
  let c14_171 : Index := 14#32
  let c0_172 : Index := 0#32
  let c0_173 : Index := 0#32
  ![v605.toNat, 14, 0, 0]
def k1_off53 (v426 : BitVec 32) : Fin 4 → Nat :=
  let v616 : Index := Scalar.indexCast v426
  let c15_174 : Index := 15#32
  let c0_175 : Index := 0#32
  let c0_176 : Index := 0#32
  ![v616.toNat, 15, 0, 0]
def k1_off54 (v426 : BitVec 32) : Fin 3 → Nat :=
  let v627 : Index := Scalar.indexCast v426
  let c0_177 : Index := 0#32
  let c0_178 : Index := 0#32
  ![v627.toNat, 0, 0]

def k1_chk3 (v426 : BitVec 32) : Prop :=
  (∀ a, (k1_off37 v426) a + S1x136x96.size a ≤ S3x136x96.size a) ∧
  (∀ a, (k1_off38 v426) a + S1x1x8x96.size a ≤ S3x16x136x96.size a) ∧
  (∀ a, (k1_off39 v426) a + S1x1x8x96.size a ≤ S3x16x136x96.size a) ∧
  (∀ a, (k1_off40 v426) a + S1x1x8x96.size a ≤ S3x16x136x96.size a) ∧
  (∀ a, (k1_off41 v426) a + S1x1x16x96.size a ≤ S3x16x136x96.size a) ∧
  (∀ a, (k1_off42 v426) a + S1x1x16x96.size a ≤ S3x16x136x96.size a) ∧
  (∀ a, (k1_off43 v426) a + S1x1x24x96.size a ≤ S3x16x136x96.size a) ∧
  (∀ a, (k1_off44 v426) a + S1x1x32x96.size a ≤ S3x16x136x96.size a) ∧
  (∀ a, (k1_off45 v426) a + S1x1x40x96.size a ≤ S3x16x136x96.size a) ∧
  (∀ a, (k1_off46 v426) a + S1x1x48x96.size a ≤ S3x16x136x96.size a) ∧
  (∀ a, (k1_off47 v426) a + S1x1x56x96.size a ≤ S3x16x136x96.size a) ∧
  (∀ a, (k1_off48 v426) a + S1x1x72x96.size a ≤ S3x16x136x96.size a) ∧
  (∀ a, (k1_off49 v426) a + S1x1x80x96.size a ≤ S3x16x136x96.size a) ∧
  (∀ a, (k1_off50 v426) a + S1x1x96x96.size a ≤ S3x16x136x96.size a) ∧
  (∀ a, (k1_off51 v426) a + S1x1x112x96.size a ≤ S3x16x136x96.size a) ∧
  (∀ a, (k1_off52 v426) a + S1x1x120x96.size a ≤ S3x16x136x96.size a) ∧
  (∀ a, (k1_off53 v426) a + S1x1x136x96.size a ≤ S3x16x136x96.size a) ∧
  (∀ a, (k1_off54 v426) a + S1x16x96.size a ≤ S3x16x96.size a)
theorem k1_off37_inb : ∀ (v426 : BitVec 32) (k1_hw3 : k1_chk3 v426), ∀ a, (k1_off37 v426) a + S1x136x96.size a ≤ S3x136x96.size a := fun v426 k1_hw3 => k1_hw3.1
theorem k1_off38_inb : ∀ (v426 : BitVec 32) (k1_hw3 : k1_chk3 v426), ∀ a, (k1_off38 v426) a + S1x1x8x96.size a ≤ S3x16x136x96.size a := fun v426 k1_hw3 => k1_hw3.2.1
theorem k1_off39_inb : ∀ (v426 : BitVec 32) (k1_hw3 : k1_chk3 v426), ∀ a, (k1_off39 v426) a + S1x1x8x96.size a ≤ S3x16x136x96.size a := fun v426 k1_hw3 => k1_hw3.2.2.1
theorem k1_off40_inb : ∀ (v426 : BitVec 32) (k1_hw3 : k1_chk3 v426), ∀ a, (k1_off40 v426) a + S1x1x8x96.size a ≤ S3x16x136x96.size a := fun v426 k1_hw3 => k1_hw3.2.2.2.1
theorem k1_off41_inb : ∀ (v426 : BitVec 32) (k1_hw3 : k1_chk3 v426), ∀ a, (k1_off41 v426) a + S1x1x16x96.size a ≤ S3x16x136x96.size a := fun v426 k1_hw3 => k1_hw3.2.2.2.2.1
theorem k1_off42_inb : ∀ (v426 : BitVec 32) (k1_hw3 : k1_chk3 v426), ∀ a, (k1_off42 v426) a + S1x1x16x96.size a ≤ S3x16x136x96.size a := fun v426 k1_hw3 => k1_hw3.2.2.2.2.2.1
theorem k1_off43_inb : ∀ (v426 : BitVec 32) (k1_hw3 : k1_chk3 v426), ∀ a, (k1_off43 v426) a + S1x1x24x96.size a ≤ S3x16x136x96.size a := fun v426 k1_hw3 => k1_hw3.2.2.2.2.2.2.1
theorem k1_off44_inb : ∀ (v426 : BitVec 32) (k1_hw3 : k1_chk3 v426), ∀ a, (k1_off44 v426) a + S1x1x32x96.size a ≤ S3x16x136x96.size a := fun v426 k1_hw3 => k1_hw3.2.2.2.2.2.2.2.1
theorem k1_off45_inb : ∀ (v426 : BitVec 32) (k1_hw3 : k1_chk3 v426), ∀ a, (k1_off45 v426) a + S1x1x40x96.size a ≤ S3x16x136x96.size a := fun v426 k1_hw3 => k1_hw3.2.2.2.2.2.2.2.2.1
theorem k1_off46_inb : ∀ (v426 : BitVec 32) (k1_hw3 : k1_chk3 v426), ∀ a, (k1_off46 v426) a + S1x1x48x96.size a ≤ S3x16x136x96.size a := fun v426 k1_hw3 => k1_hw3.2.2.2.2.2.2.2.2.2.1
theorem k1_off47_inb : ∀ (v426 : BitVec 32) (k1_hw3 : k1_chk3 v426), ∀ a, (k1_off47 v426) a + S1x1x56x96.size a ≤ S3x16x136x96.size a := fun v426 k1_hw3 => k1_hw3.2.2.2.2.2.2.2.2.2.2.1
theorem k1_off48_inb : ∀ (v426 : BitVec 32) (k1_hw3 : k1_chk3 v426), ∀ a, (k1_off48 v426) a + S1x1x72x96.size a ≤ S3x16x136x96.size a := fun v426 k1_hw3 => k1_hw3.2.2.2.2.2.2.2.2.2.2.2.1
theorem k1_off49_inb : ∀ (v426 : BitVec 32) (k1_hw3 : k1_chk3 v426), ∀ a, (k1_off49 v426) a + S1x1x80x96.size a ≤ S3x16x136x96.size a := fun v426 k1_hw3 => k1_hw3.2.2.2.2.2.2.2.2.2.2.2.2.1
theorem k1_off50_inb : ∀ (v426 : BitVec 32) (k1_hw3 : k1_chk3 v426), ∀ a, (k1_off50 v426) a + S1x1x96x96.size a ≤ S3x16x136x96.size a := fun v426 k1_hw3 => k1_hw3.2.2.2.2.2.2.2.2.2.2.2.2.2.1
theorem k1_off51_inb : ∀ (v426 : BitVec 32) (k1_hw3 : k1_chk3 v426), ∀ a, (k1_off51 v426) a + S1x1x112x96.size a ≤ S3x16x136x96.size a := fun v426 k1_hw3 => k1_hw3.2.2.2.2.2.2.2.2.2.2.2.2.2.2.1
theorem k1_off52_inb : ∀ (v426 : BitVec 32) (k1_hw3 : k1_chk3 v426), ∀ a, (k1_off52 v426) a + S1x1x120x96.size a ≤ S3x16x136x96.size a := fun v426 k1_hw3 => k1_hw3.2.2.2.2.2.2.2.2.2.2.2.2.2.2.2.1
theorem k1_off53_inb : ∀ (v426 : BitVec 32) (k1_hw3 : k1_chk3 v426), ∀ a, (k1_off53 v426) a + S1x1x136x96.size a ≤ S3x16x136x96.size a := fun v426 k1_hw3 => k1_hw3.2.2.2.2.2.2.2.2.2.2.2.2.2.2.2.2.1
theorem k1_off54_inb : ∀ (v426 : BitVec 32) (k1_hw3 : k1_chk3 v426), ∀ a, (k1_off54 v426) a + S1x16x96.size a ≤ S3x16x96.size a := fun v426 k1_hw3 => k1_hw3.2.2.2.2.2.2.2.2.2.2.2.2.2.2.2.2.2

def k1_off55 (v638 : BitVec 32) : Fin 3 → Nat :=
  let v645 : Index := Scalar.indexCast v638
  let c0_193 : Index := 0#32
  let c0_194 : Index := 0#32
  ![v645.toNat, 0, 0]

def k1_off56 (v638 : BitVec 32) : Fin 4 → Nat :=
  let v649 : Index := Scalar.indexCast v638
  let c0_195 : Index := 0#32
  let c0_196 : Index := 0#32
  let c0_197 : Index := 0#32
  ![v649.toNat, 0, 0, 0]
def k1_off57 (v638 : BitVec 32) : Fin 4 → Nat :=
  let v661 : Index := Scalar.indexCast v638
  let c1_198 : Index := 1#32
  let c0_199 : Index := 0#32
  let c0_200 : Index := 0#32
  ![v661.toNat, 1, 0, 0]
def k1_off58 (v638 : BitVec 32) : Fin 4 → Nat :=
  let v673 : Index := Scalar.indexCast v638
  let c2_201 : Index := 2#32
  let c0_202 : Index := 0#32
  let c0_203 : Index := 0#32
  ![v673.toNat, 2, 0, 0]
def k1_off59 (v638 : BitVec 32) : Fin 4 → Nat :=
  let v685 : Index := Scalar.indexCast v638
  let c3_204 : Index := 3#32
  let c0_205 : Index := 0#32
  let c0_206 : Index := 0#32
  ![v685.toNat, 3, 0, 0]
def k1_off60 (v638 : BitVec 32) : Fin 4 → Nat :=
  let v697 : Index := Scalar.indexCast v638
  let c4_207 : Index := 4#32
  let c0_208 : Index := 0#32
  let c0_209 : Index := 0#32
  ![v697.toNat, 4, 0, 0]
def k1_off61 (v638 : BitVec 32) : Fin 4 → Nat :=
  let v709 : Index := Scalar.indexCast v638
  let c5_210 : Index := 5#32
  let c0_211 : Index := 0#32
  let c0_212 : Index := 0#32
  ![v709.toNat, 5, 0, 0]
def k1_off62 (v638 : BitVec 32) : Fin 4 → Nat :=
  let v721 : Index := Scalar.indexCast v638
  let c6_213 : Index := 6#32
  let c0_214 : Index := 0#32
  let c0_215 : Index := 0#32
  ![v721.toNat, 6, 0, 0]
def k1_off63 (v638 : BitVec 32) : Fin 4 → Nat :=
  let v733 : Index := Scalar.indexCast v638
  let c7_216 : Index := 7#32
  let c0_217 : Index := 0#32
  let c0_218 : Index := 0#32
  ![v733.toNat, 7, 0, 0]
def k1_off64 (v638 : BitVec 32) : Fin 4 → Nat :=
  let v745 : Index := Scalar.indexCast v638
  let c8_219 : Index := 8#32
  let c0_220 : Index := 0#32
  let c0_221 : Index := 0#32
  ![v745.toNat, 8, 0, 0]
def k1_off65 (v638 : BitVec 32) : Fin 4 → Nat :=
  let v757 : Index := Scalar.indexCast v638
  let c9_222 : Index := 9#32
  let c0_223 : Index := 0#32
  let c0_224 : Index := 0#32
  ![v757.toNat, 9, 0, 0]
def k1_off66 (v638 : BitVec 32) : Fin 4 → Nat :=
  let v769 : Index := Scalar.indexCast v638
  let c10_225 : Index := 10#32
  let c0_226 : Index := 0#32
  let c0_227 : Index := 0#32
  ![v769.toNat, 10, 0, 0]
def k1_off67 (v638 : BitVec 32) : Fin 4 → Nat :=
  let v781 : Index := Scalar.indexCast v638
  let c11_228 : Index := 11#32
  let c0_229 : Index := 0#32
  let c0_230 : Index := 0#32
  ![v781.toNat, 11, 0, 0]
def k1_off68 (v638 : BitVec 32) : Fin 4 → Nat :=
  let v793 : Index := Scalar.indexCast v638
  let c12_231 : Index := 12#32
  let c0_232 : Index := 0#32
  let c0_233 : Index := 0#32
  ![v793.toNat, 12, 0, 0]
def k1_off69 (v638 : BitVec 32) : Fin 4 → Nat :=
  let v805 : Index := Scalar.indexCast v638
  let c13_234 : Index := 13#32
  let c0_235 : Index := 0#32
  let c0_236 : Index := 0#32
  ![v805.toNat, 13, 0, 0]
def k1_off70 (v638 : BitVec 32) : Fin 4 → Nat :=
  let v817 : Index := Scalar.indexCast v638
  let c14_237 : Index := 14#32
  let c0_238 : Index := 0#32
  let c0_239 : Index := 0#32
  ![v817.toNat, 14, 0, 0]
def k1_off71 (v638 : BitVec 32) : Fin 4 → Nat :=
  let v828 : Index := Scalar.indexCast v638
  let c15_240 : Index := 15#32
  let c0_241 : Index := 0#32
  let c0_242 : Index := 0#32
  ![v828.toNat, 15, 0, 0]
def k1_off72 (v638 : BitVec 32) : Fin 3 → Nat :=
  let v839 : Index := Scalar.indexCast v638
  let c0_243 : Index := 0#32
  let c0_244 : Index := 0#32
  ![v839.toNat, 0, 0]

def k1_chk4 (v638 : BitVec 32) : Prop :=
  (∀ a, (k1_off55 v638) a + S1x136x96.size a ≤ S3x136x96.size a) ∧
  (∀ a, (k1_off56 v638) a + S1x1x8x96.size a ≤ S3x16x136x96.size a) ∧
  (∀ a, (k1_off57 v638) a + S1x1x8x96.size a ≤ S3x16x136x96.size a) ∧
  (∀ a, (k1_off58 v638) a + S1x1x8x96.size a ≤ S3x16x136x96.size a) ∧
  (∀ a, (k1_off59 v638) a + S1x1x16x96.size a ≤ S3x16x136x96.size a) ∧
  (∀ a, (k1_off60 v638) a + S1x1x16x96.size a ≤ S3x16x136x96.size a) ∧
  (∀ a, (k1_off61 v638) a + S1x1x24x96.size a ≤ S3x16x136x96.size a) ∧
  (∀ a, (k1_off62 v638) a + S1x1x32x96.size a ≤ S3x16x136x96.size a) ∧
  (∀ a, (k1_off63 v638) a + S1x1x40x96.size a ≤ S3x16x136x96.size a) ∧
  (∀ a, (k1_off64 v638) a + S1x1x48x96.size a ≤ S3x16x136x96.size a) ∧
  (∀ a, (k1_off65 v638) a + S1x1x56x96.size a ≤ S3x16x136x96.size a) ∧
  (∀ a, (k1_off66 v638) a + S1x1x72x96.size a ≤ S3x16x136x96.size a) ∧
  (∀ a, (k1_off67 v638) a + S1x1x80x96.size a ≤ S3x16x136x96.size a) ∧
  (∀ a, (k1_off68 v638) a + S1x1x96x96.size a ≤ S3x16x136x96.size a) ∧
  (∀ a, (k1_off69 v638) a + S1x1x112x96.size a ≤ S3x16x136x96.size a) ∧
  (∀ a, (k1_off70 v638) a + S1x1x120x96.size a ≤ S3x16x136x96.size a) ∧
  (∀ a, (k1_off71 v638) a + S1x1x136x96.size a ≤ S3x16x136x96.size a) ∧
  (∀ a, (k1_off72 v638) a + S1x16x96.size a ≤ S3x16x96.size a)
theorem k1_off55_inb : ∀ (v638 : BitVec 32) (k1_hw4 : k1_chk4 v638), ∀ a, (k1_off55 v638) a + S1x136x96.size a ≤ S3x136x96.size a := fun v638 k1_hw4 => k1_hw4.1
theorem k1_off56_inb : ∀ (v638 : BitVec 32) (k1_hw4 : k1_chk4 v638), ∀ a, (k1_off56 v638) a + S1x1x8x96.size a ≤ S3x16x136x96.size a := fun v638 k1_hw4 => k1_hw4.2.1
theorem k1_off57_inb : ∀ (v638 : BitVec 32) (k1_hw4 : k1_chk4 v638), ∀ a, (k1_off57 v638) a + S1x1x8x96.size a ≤ S3x16x136x96.size a := fun v638 k1_hw4 => k1_hw4.2.2.1
theorem k1_off58_inb : ∀ (v638 : BitVec 32) (k1_hw4 : k1_chk4 v638), ∀ a, (k1_off58 v638) a + S1x1x8x96.size a ≤ S3x16x136x96.size a := fun v638 k1_hw4 => k1_hw4.2.2.2.1
theorem k1_off59_inb : ∀ (v638 : BitVec 32) (k1_hw4 : k1_chk4 v638), ∀ a, (k1_off59 v638) a + S1x1x16x96.size a ≤ S3x16x136x96.size a := fun v638 k1_hw4 => k1_hw4.2.2.2.2.1
theorem k1_off60_inb : ∀ (v638 : BitVec 32) (k1_hw4 : k1_chk4 v638), ∀ a, (k1_off60 v638) a + S1x1x16x96.size a ≤ S3x16x136x96.size a := fun v638 k1_hw4 => k1_hw4.2.2.2.2.2.1
theorem k1_off61_inb : ∀ (v638 : BitVec 32) (k1_hw4 : k1_chk4 v638), ∀ a, (k1_off61 v638) a + S1x1x24x96.size a ≤ S3x16x136x96.size a := fun v638 k1_hw4 => k1_hw4.2.2.2.2.2.2.1
theorem k1_off62_inb : ∀ (v638 : BitVec 32) (k1_hw4 : k1_chk4 v638), ∀ a, (k1_off62 v638) a + S1x1x32x96.size a ≤ S3x16x136x96.size a := fun v638 k1_hw4 => k1_hw4.2.2.2.2.2.2.2.1
theorem k1_off63_inb : ∀ (v638 : BitVec 32) (k1_hw4 : k1_chk4 v638), ∀ a, (k1_off63 v638) a + S1x1x40x96.size a ≤ S3x16x136x96.size a := fun v638 k1_hw4 => k1_hw4.2.2.2.2.2.2.2.2.1
theorem k1_off64_inb : ∀ (v638 : BitVec 32) (k1_hw4 : k1_chk4 v638), ∀ a, (k1_off64 v638) a + S1x1x48x96.size a ≤ S3x16x136x96.size a := fun v638 k1_hw4 => k1_hw4.2.2.2.2.2.2.2.2.2.1
theorem k1_off65_inb : ∀ (v638 : BitVec 32) (k1_hw4 : k1_chk4 v638), ∀ a, (k1_off65 v638) a + S1x1x56x96.size a ≤ S3x16x136x96.size a := fun v638 k1_hw4 => k1_hw4.2.2.2.2.2.2.2.2.2.2.1
theorem k1_off66_inb : ∀ (v638 : BitVec 32) (k1_hw4 : k1_chk4 v638), ∀ a, (k1_off66 v638) a + S1x1x72x96.size a ≤ S3x16x136x96.size a := fun v638 k1_hw4 => k1_hw4.2.2.2.2.2.2.2.2.2.2.2.1
theorem k1_off67_inb : ∀ (v638 : BitVec 32) (k1_hw4 : k1_chk4 v638), ∀ a, (k1_off67 v638) a + S1x1x80x96.size a ≤ S3x16x136x96.size a := fun v638 k1_hw4 => k1_hw4.2.2.2.2.2.2.2.2.2.2.2.2.1
theorem k1_off68_inb : ∀ (v638 : BitVec 32) (k1_hw4 : k1_chk4 v638), ∀ a, (k1_off68 v638) a + S1x1x96x96.size a ≤ S3x16x136x96.size a := fun v638 k1_hw4 => k1_hw4.2.2.2.2.2.2.2.2.2.2.2.2.2.1
theorem k1_off69_inb : ∀ (v638 : BitVec 32) (k1_hw4 : k1_chk4 v638), ∀ a, (k1_off69 v638) a + S1x1x112x96.size a ≤ S3x16x136x96.size a := fun v638 k1_hw4 => k1_hw4.2.2.2.2.2.2.2.2.2.2.2.2.2.2.1
theorem k1_off70_inb : ∀ (v638 : BitVec 32) (k1_hw4 : k1_chk4 v638), ∀ a, (k1_off70 v638) a + S1x1x120x96.size a ≤ S3x16x136x96.size a := fun v638 k1_hw4 => k1_hw4.2.2.2.2.2.2.2.2.2.2.2.2.2.2.2.1
theorem k1_off71_inb : ∀ (v638 : BitVec 32) (k1_hw4 : k1_chk4 v638), ∀ a, (k1_off71 v638) a + S1x1x136x96.size a ≤ S3x16x136x96.size a := fun v638 k1_hw4 => k1_hw4.2.2.2.2.2.2.2.2.2.2.2.2.2.2.2.2.1
theorem k1_off72_inb : ∀ (v638 : BitVec 32) (k1_hw4 : k1_chk4 v638), ∀ a, (k1_off72 v638) a + S1x16x96.size a ≤ S3x16x96.size a := fun v638 k1_hw4 => k1_hw4.2.2.2.2.2.2.2.2.2.2.2.2.2.2.2.2.2

def k1_off73 (v850 : BitVec 32) : Fin 3 → Nat :=
  let v857 : Index := Scalar.indexCast v850
  let c0_259 : Index := 0#32
  let c0_260 : Index := 0#32
  ![v857.toNat, 0, 0]

def k1_off74 (v850 : BitVec 32) : Fin 4 → Nat :=
  let v861 : Index := Scalar.indexCast v850
  let c0_261 : Index := 0#32
  let c0_262 : Index := 0#32
  let c0_263 : Index := 0#32
  ![v861.toNat, 0, 0, 0]
def k1_off75 (v850 : BitVec 32) : Fin 4 → Nat :=
  let v873 : Index := Scalar.indexCast v850
  let c1_264 : Index := 1#32
  let c0_265 : Index := 0#32
  let c0_266 : Index := 0#32
  ![v873.toNat, 1, 0, 0]
def k1_off76 (v850 : BitVec 32) : Fin 4 → Nat :=
  let v885 : Index := Scalar.indexCast v850
  let c2_267 : Index := 2#32
  let c0_268 : Index := 0#32
  let c0_269 : Index := 0#32
  ![v885.toNat, 2, 0, 0]
def k1_off77 (v850 : BitVec 32) : Fin 4 → Nat :=
  let v897 : Index := Scalar.indexCast v850
  let c3_270 : Index := 3#32
  let c0_271 : Index := 0#32
  let c0_272 : Index := 0#32
  ![v897.toNat, 3, 0, 0]
def k1_off78 (v850 : BitVec 32) : Fin 4 → Nat :=
  let v909 : Index := Scalar.indexCast v850
  let c4_273 : Index := 4#32
  let c0_274 : Index := 0#32
  let c0_275 : Index := 0#32
  ![v909.toNat, 4, 0, 0]
def k1_off79 (v850 : BitVec 32) : Fin 4 → Nat :=
  let v921 : Index := Scalar.indexCast v850
  let c5_276 : Index := 5#32
  let c0_277 : Index := 0#32
  let c0_278 : Index := 0#32
  ![v921.toNat, 5, 0, 0]
def k1_off80 (v850 : BitVec 32) : Fin 4 → Nat :=
  let v933 : Index := Scalar.indexCast v850
  let c6_279 : Index := 6#32
  let c0_280 : Index := 0#32
  let c0_281 : Index := 0#32
  ![v933.toNat, 6, 0, 0]
def k1_off81 (v850 : BitVec 32) : Fin 4 → Nat :=
  let v945 : Index := Scalar.indexCast v850
  let c7_282 : Index := 7#32
  let c0_283 : Index := 0#32
  let c0_284 : Index := 0#32
  ![v945.toNat, 7, 0, 0]
def k1_off82 (v850 : BitVec 32) : Fin 4 → Nat :=
  let v957 : Index := Scalar.indexCast v850
  let c8_285 : Index := 8#32
  let c0_286 : Index := 0#32
  let c0_287 : Index := 0#32
  ![v957.toNat, 8, 0, 0]
def k1_off83 (v850 : BitVec 32) : Fin 4 → Nat :=
  let v969 : Index := Scalar.indexCast v850
  let c9_288 : Index := 9#32
  let c0_289 : Index := 0#32
  let c0_290 : Index := 0#32
  ![v969.toNat, 9, 0, 0]
def k1_off84 (v850 : BitVec 32) : Fin 4 → Nat :=
  let v981 : Index := Scalar.indexCast v850
  let c10_291 : Index := 10#32
  let c0_292 : Index := 0#32
  let c0_293 : Index := 0#32
  ![v981.toNat, 10, 0, 0]
def k1_off85 (v850 : BitVec 32) : Fin 4 → Nat :=
  let v993 : Index := Scalar.indexCast v850
  let c11_294 : Index := 11#32
  let c0_295 : Index := 0#32
  let c0_296 : Index := 0#32
  ![v993.toNat, 11, 0, 0]
def k1_off86 (v850 : BitVec 32) : Fin 4 → Nat :=
  let v1005 : Index := Scalar.indexCast v850
  let c12_297 : Index := 12#32
  let c0_298 : Index := 0#32
  let c0_299 : Index := 0#32
  ![v1005.toNat, 12, 0, 0]
def k1_off87 (v850 : BitVec 32) : Fin 4 → Nat :=
  let v1017 : Index := Scalar.indexCast v850
  let c13_300 : Index := 13#32
  let c0_301 : Index := 0#32
  let c0_302 : Index := 0#32
  ![v1017.toNat, 13, 0, 0]
def k1_off88 (v850 : BitVec 32) : Fin 4 → Nat :=
  let v1029 : Index := Scalar.indexCast v850
  let c14_303 : Index := 14#32
  let c0_304 : Index := 0#32
  let c0_305 : Index := 0#32
  ![v1029.toNat, 14, 0, 0]
def k1_off89 (v850 : BitVec 32) : Fin 4 → Nat :=
  let v1040 : Index := Scalar.indexCast v850
  let c15_306 : Index := 15#32
  let c0_307 : Index := 0#32
  let c0_308 : Index := 0#32
  ![v1040.toNat, 15, 0, 0]
def k1_off90 (v850 : BitVec 32) : Fin 3 → Nat :=
  let v1051 : Index := Scalar.indexCast v850
  let c0_309 : Index := 0#32
  let c0_310 : Index := 0#32
  ![v1051.toNat, 0, 0]

def k1_chk5 (v850 : BitVec 32) : Prop :=
  (∀ a, (k1_off73 v850) a + S1x136x96.size a ≤ S3x136x96.size a) ∧
  (∀ a, (k1_off74 v850) a + S1x1x8x96.size a ≤ S3x16x136x96.size a) ∧
  (∀ a, (k1_off75 v850) a + S1x1x8x96.size a ≤ S3x16x136x96.size a) ∧
  (∀ a, (k1_off76 v850) a + S1x1x8x96.size a ≤ S3x16x136x96.size a) ∧
  (∀ a, (k1_off77 v850) a + S1x1x16x96.size a ≤ S3x16x136x96.size a) ∧
  (∀ a, (k1_off78 v850) a + S1x1x16x96.size a ≤ S3x16x136x96.size a) ∧
  (∀ a, (k1_off79 v850) a + S1x1x24x96.size a ≤ S3x16x136x96.size a) ∧
  (∀ a, (k1_off80 v850) a + S1x1x32x96.size a ≤ S3x16x136x96.size a) ∧
  (∀ a, (k1_off81 v850) a + S1x1x40x96.size a ≤ S3x16x136x96.size a) ∧
  (∀ a, (k1_off82 v850) a + S1x1x48x96.size a ≤ S3x16x136x96.size a) ∧
  (∀ a, (k1_off83 v850) a + S1x1x56x96.size a ≤ S3x16x136x96.size a) ∧
  (∀ a, (k1_off84 v850) a + S1x1x72x96.size a ≤ S3x16x136x96.size a) ∧
  (∀ a, (k1_off85 v850) a + S1x1x80x96.size a ≤ S3x16x136x96.size a) ∧
  (∀ a, (k1_off86 v850) a + S1x1x96x96.size a ≤ S3x16x136x96.size a) ∧
  (∀ a, (k1_off87 v850) a + S1x1x112x96.size a ≤ S3x16x136x96.size a) ∧
  (∀ a, (k1_off88 v850) a + S1x1x120x96.size a ≤ S3x16x136x96.size a) ∧
  (∀ a, (k1_off89 v850) a + S1x1x136x96.size a ≤ S3x16x136x96.size a) ∧
  (∀ a, (k1_off90 v850) a + S1x16x96.size a ≤ S3x16x96.size a)
theorem k1_off73_inb : ∀ (v850 : BitVec 32) (k1_hw5 : k1_chk5 v850), ∀ a, (k1_off73 v850) a + S1x136x96.size a ≤ S3x136x96.size a := fun v850 k1_hw5 => k1_hw5.1
theorem k1_off74_inb : ∀ (v850 : BitVec 32) (k1_hw5 : k1_chk5 v850), ∀ a, (k1_off74 v850) a + S1x1x8x96.size a ≤ S3x16x136x96.size a := fun v850 k1_hw5 => k1_hw5.2.1
theorem k1_off75_inb : ∀ (v850 : BitVec 32) (k1_hw5 : k1_chk5 v850), ∀ a, (k1_off75 v850) a + S1x1x8x96.size a ≤ S3x16x136x96.size a := fun v850 k1_hw5 => k1_hw5.2.2.1
theorem k1_off76_inb : ∀ (v850 : BitVec 32) (k1_hw5 : k1_chk5 v850), ∀ a, (k1_off76 v850) a + S1x1x8x96.size a ≤ S3x16x136x96.size a := fun v850 k1_hw5 => k1_hw5.2.2.2.1
theorem k1_off77_inb : ∀ (v850 : BitVec 32) (k1_hw5 : k1_chk5 v850), ∀ a, (k1_off77 v850) a + S1x1x16x96.size a ≤ S3x16x136x96.size a := fun v850 k1_hw5 => k1_hw5.2.2.2.2.1
theorem k1_off78_inb : ∀ (v850 : BitVec 32) (k1_hw5 : k1_chk5 v850), ∀ a, (k1_off78 v850) a + S1x1x16x96.size a ≤ S3x16x136x96.size a := fun v850 k1_hw5 => k1_hw5.2.2.2.2.2.1
theorem k1_off79_inb : ∀ (v850 : BitVec 32) (k1_hw5 : k1_chk5 v850), ∀ a, (k1_off79 v850) a + S1x1x24x96.size a ≤ S3x16x136x96.size a := fun v850 k1_hw5 => k1_hw5.2.2.2.2.2.2.1
theorem k1_off80_inb : ∀ (v850 : BitVec 32) (k1_hw5 : k1_chk5 v850), ∀ a, (k1_off80 v850) a + S1x1x32x96.size a ≤ S3x16x136x96.size a := fun v850 k1_hw5 => k1_hw5.2.2.2.2.2.2.2.1
theorem k1_off81_inb : ∀ (v850 : BitVec 32) (k1_hw5 : k1_chk5 v850), ∀ a, (k1_off81 v850) a + S1x1x40x96.size a ≤ S3x16x136x96.size a := fun v850 k1_hw5 => k1_hw5.2.2.2.2.2.2.2.2.1
theorem k1_off82_inb : ∀ (v850 : BitVec 32) (k1_hw5 : k1_chk5 v850), ∀ a, (k1_off82 v850) a + S1x1x48x96.size a ≤ S3x16x136x96.size a := fun v850 k1_hw5 => k1_hw5.2.2.2.2.2.2.2.2.2.1
theorem k1_off83_inb : ∀ (v850 : BitVec 32) (k1_hw5 : k1_chk5 v850), ∀ a, (k1_off83 v850) a + S1x1x56x96.size a ≤ S3x16x136x96.size a := fun v850 k1_hw5 => k1_hw5.2.2.2.2.2.2.2.2.2.2.1
theorem k1_off84_inb : ∀ (v850 : BitVec 32) (k1_hw5 : k1_chk5 v850), ∀ a, (k1_off84 v850) a + S1x1x72x96.size a ≤ S3x16x136x96.size a := fun v850 k1_hw5 => k1_hw5.2.2.2.2.2.2.2.2.2.2.2.1
theorem k1_off85_inb : ∀ (v850 : BitVec 32) (k1_hw5 : k1_chk5 v850), ∀ a, (k1_off85 v850) a + S1x1x80x96.size a ≤ S3x16x136x96.size a := fun v850 k1_hw5 => k1_hw5.2.2.2.2.2.2.2.2.2.2.2.2.1
theorem k1_off86_inb : ∀ (v850 : BitVec 32) (k1_hw5 : k1_chk5 v850), ∀ a, (k1_off86 v850) a + S1x1x96x96.size a ≤ S3x16x136x96.size a := fun v850 k1_hw5 => k1_hw5.2.2.2.2.2.2.2.2.2.2.2.2.2.1
theorem k1_off87_inb : ∀ (v850 : BitVec 32) (k1_hw5 : k1_chk5 v850), ∀ a, (k1_off87 v850) a + S1x1x112x96.size a ≤ S3x16x136x96.size a := fun v850 k1_hw5 => k1_hw5.2.2.2.2.2.2.2.2.2.2.2.2.2.2.1
theorem k1_off88_inb : ∀ (v850 : BitVec 32) (k1_hw5 : k1_chk5 v850), ∀ a, (k1_off88 v850) a + S1x1x120x96.size a ≤ S3x16x136x96.size a := fun v850 k1_hw5 => k1_hw5.2.2.2.2.2.2.2.2.2.2.2.2.2.2.2.1
theorem k1_off89_inb : ∀ (v850 : BitVec 32) (k1_hw5 : k1_chk5 v850), ∀ a, (k1_off89 v850) a + S1x1x136x96.size a ≤ S3x16x136x96.size a := fun v850 k1_hw5 => k1_hw5.2.2.2.2.2.2.2.2.2.2.2.2.2.2.2.2.1
theorem k1_off90_inb : ∀ (v850 : BitVec 32) (k1_hw5 : k1_chk5 v850), ∀ a, (k1_off90 v850) a + S1x16x96.size a ≤ S3x16x96.size a := fun v850 k1_hw5 => k1_hw5.2.2.2.2.2.2.2.2.2.2.2.2.2.2.2.2.2

def k1_off91 (v1062 : BitVec 32) : Fin 3 → Nat :=
  let v1069 : Index := Scalar.indexCast v1062
  let c0_325 : Index := 0#32
  let c0_326 : Index := 0#32
  ![v1069.toNat, 0, 0]

def k1_off92 (v1062 : BitVec 32) : Fin 4 → Nat :=
  let v1073 : Index := Scalar.indexCast v1062
  let c0_327 : Index := 0#32
  let c0_328 : Index := 0#32
  let c0_329 : Index := 0#32
  ![v1073.toNat, 0, 0, 0]
def k1_off93 (v1062 : BitVec 32) : Fin 4 → Nat :=
  let v1085 : Index := Scalar.indexCast v1062
  let c1_330 : Index := 1#32
  let c0_331 : Index := 0#32
  let c0_332 : Index := 0#32
  ![v1085.toNat, 1, 0, 0]
def k1_off94 (v1062 : BitVec 32) : Fin 4 → Nat :=
  let v1097 : Index := Scalar.indexCast v1062
  let c2_333 : Index := 2#32
  let c0_334 : Index := 0#32
  let c0_335 : Index := 0#32
  ![v1097.toNat, 2, 0, 0]
def k1_off95 (v1062 : BitVec 32) : Fin 4 → Nat :=
  let v1109 : Index := Scalar.indexCast v1062
  let c3_336 : Index := 3#32
  let c0_337 : Index := 0#32
  let c0_338 : Index := 0#32
  ![v1109.toNat, 3, 0, 0]
def k1_off96 (v1062 : BitVec 32) : Fin 4 → Nat :=
  let v1121 : Index := Scalar.indexCast v1062
  let c4_339 : Index := 4#32
  let c0_340 : Index := 0#32
  let c0_341 : Index := 0#32
  ![v1121.toNat, 4, 0, 0]
def k1_off97 (v1062 : BitVec 32) : Fin 4 → Nat :=
  let v1133 : Index := Scalar.indexCast v1062
  let c5_342 : Index := 5#32
  let c0_343 : Index := 0#32
  let c0_344 : Index := 0#32
  ![v1133.toNat, 5, 0, 0]
def k1_off98 (v1062 : BitVec 32) : Fin 4 → Nat :=
  let v1145 : Index := Scalar.indexCast v1062
  let c6_345 : Index := 6#32
  let c0_346 : Index := 0#32
  let c0_347 : Index := 0#32
  ![v1145.toNat, 6, 0, 0]
def k1_off99 (v1062 : BitVec 32) : Fin 4 → Nat :=
  let v1157 : Index := Scalar.indexCast v1062
  let c7_348 : Index := 7#32
  let c0_349 : Index := 0#32
  let c0_350 : Index := 0#32
  ![v1157.toNat, 7, 0, 0]
def k1_off100 (v1062 : BitVec 32) : Fin 4 → Nat :=
  let v1169 : Index := Scalar.indexCast v1062
  let c8_351 : Index := 8#32
  let c0_352 : Index := 0#32
  let c0_353 : Index := 0#32
  ![v1169.toNat, 8, 0, 0]
def k1_off101 (v1062 : BitVec 32) : Fin 4 → Nat :=
  let v1181 : Index := Scalar.indexCast v1062
  let c9_354 : Index := 9#32
  let c0_355 : Index := 0#32
  let c0_356 : Index := 0#32
  ![v1181.toNat, 9, 0, 0]
def k1_off102 (v1062 : BitVec 32) : Fin 4 → Nat :=
  let v1193 : Index := Scalar.indexCast v1062
  let c10_357 : Index := 10#32
  let c0_358 : Index := 0#32
  let c0_359 : Index := 0#32
  ![v1193.toNat, 10, 0, 0]
def k1_off103 (v1062 : BitVec 32) : Fin 4 → Nat :=
  let v1205 : Index := Scalar.indexCast v1062
  let c11_360 : Index := 11#32
  let c0_361 : Index := 0#32
  let c0_362 : Index := 0#32
  ![v1205.toNat, 11, 0, 0]
def k1_off104 (v1062 : BitVec 32) : Fin 4 → Nat :=
  let v1217 : Index := Scalar.indexCast v1062
  let c12_363 : Index := 12#32
  let c0_364 : Index := 0#32
  let c0_365 : Index := 0#32
  ![v1217.toNat, 12, 0, 0]
def k1_off105 (v1062 : BitVec 32) : Fin 4 → Nat :=
  let v1229 : Index := Scalar.indexCast v1062
  let c13_366 : Index := 13#32
  let c0_367 : Index := 0#32
  let c0_368 : Index := 0#32
  ![v1229.toNat, 13, 0, 0]
def k1_off106 (v1062 : BitVec 32) : Fin 4 → Nat :=
  let v1241 : Index := Scalar.indexCast v1062
  let c14_369 : Index := 14#32
  let c0_370 : Index := 0#32
  let c0_371 : Index := 0#32
  ![v1241.toNat, 14, 0, 0]
def k1_off107 (v1062 : BitVec 32) : Fin 4 → Nat :=
  let v1252 : Index := Scalar.indexCast v1062
  let c15_372 : Index := 15#32
  let c0_373 : Index := 0#32
  let c0_374 : Index := 0#32
  ![v1252.toNat, 15, 0, 0]
def k1_off108 (v1062 : BitVec 32) : Fin 3 → Nat :=
  let v1263 : Index := Scalar.indexCast v1062
  let c0_375 : Index := 0#32
  let c0_376 : Index := 0#32
  ![v1263.toNat, 0, 0]

def k1_chk6 (v1062 : BitVec 32) : Prop :=
  (∀ a, (k1_off91 v1062) a + S1x136x96.size a ≤ S3x136x96.size a) ∧
  (∀ a, (k1_off92 v1062) a + S1x1x8x96.size a ≤ S3x16x136x96.size a) ∧
  (∀ a, (k1_off93 v1062) a + S1x1x8x96.size a ≤ S3x16x136x96.size a) ∧
  (∀ a, (k1_off94 v1062) a + S1x1x8x96.size a ≤ S3x16x136x96.size a) ∧
  (∀ a, (k1_off95 v1062) a + S1x1x16x96.size a ≤ S3x16x136x96.size a) ∧
  (∀ a, (k1_off96 v1062) a + S1x1x16x96.size a ≤ S3x16x136x96.size a) ∧
  (∀ a, (k1_off97 v1062) a + S1x1x24x96.size a ≤ S3x16x136x96.size a) ∧
  (∀ a, (k1_off98 v1062) a + S1x1x32x96.size a ≤ S3x16x136x96.size a) ∧
  (∀ a, (k1_off99 v1062) a + S1x1x40x96.size a ≤ S3x16x136x96.size a) ∧
  (∀ a, (k1_off100 v1062) a + S1x1x48x96.size a ≤ S3x16x136x96.size a) ∧
  (∀ a, (k1_off101 v1062) a + S1x1x56x96.size a ≤ S3x16x136x96.size a) ∧
  (∀ a, (k1_off102 v1062) a + S1x1x72x96.size a ≤ S3x16x136x96.size a) ∧
  (∀ a, (k1_off103 v1062) a + S1x1x80x96.size a ≤ S3x16x136x96.size a) ∧
  (∀ a, (k1_off104 v1062) a + S1x1x96x96.size a ≤ S3x16x136x96.size a) ∧
  (∀ a, (k1_off105 v1062) a + S1x1x112x96.size a ≤ S3x16x136x96.size a) ∧
  (∀ a, (k1_off106 v1062) a + S1x1x120x96.size a ≤ S3x16x136x96.size a) ∧
  (∀ a, (k1_off107 v1062) a + S1x1x136x96.size a ≤ S3x16x136x96.size a) ∧
  (∀ a, (k1_off108 v1062) a + S1x16x96.size a ≤ S3x16x96.size a)
theorem k1_off91_inb : ∀ (v1062 : BitVec 32) (k1_hw6 : k1_chk6 v1062), ∀ a, (k1_off91 v1062) a + S1x136x96.size a ≤ S3x136x96.size a := fun v1062 k1_hw6 => k1_hw6.1
theorem k1_off92_inb : ∀ (v1062 : BitVec 32) (k1_hw6 : k1_chk6 v1062), ∀ a, (k1_off92 v1062) a + S1x1x8x96.size a ≤ S3x16x136x96.size a := fun v1062 k1_hw6 => k1_hw6.2.1
theorem k1_off93_inb : ∀ (v1062 : BitVec 32) (k1_hw6 : k1_chk6 v1062), ∀ a, (k1_off93 v1062) a + S1x1x8x96.size a ≤ S3x16x136x96.size a := fun v1062 k1_hw6 => k1_hw6.2.2.1
theorem k1_off94_inb : ∀ (v1062 : BitVec 32) (k1_hw6 : k1_chk6 v1062), ∀ a, (k1_off94 v1062) a + S1x1x8x96.size a ≤ S3x16x136x96.size a := fun v1062 k1_hw6 => k1_hw6.2.2.2.1
theorem k1_off95_inb : ∀ (v1062 : BitVec 32) (k1_hw6 : k1_chk6 v1062), ∀ a, (k1_off95 v1062) a + S1x1x16x96.size a ≤ S3x16x136x96.size a := fun v1062 k1_hw6 => k1_hw6.2.2.2.2.1
theorem k1_off96_inb : ∀ (v1062 : BitVec 32) (k1_hw6 : k1_chk6 v1062), ∀ a, (k1_off96 v1062) a + S1x1x16x96.size a ≤ S3x16x136x96.size a := fun v1062 k1_hw6 => k1_hw6.2.2.2.2.2.1
theorem k1_off97_inb : ∀ (v1062 : BitVec 32) (k1_hw6 : k1_chk6 v1062), ∀ a, (k1_off97 v1062) a + S1x1x24x96.size a ≤ S3x16x136x96.size a := fun v1062 k1_hw6 => k1_hw6.2.2.2.2.2.2.1
theorem k1_off98_inb : ∀ (v1062 : BitVec 32) (k1_hw6 : k1_chk6 v1062), ∀ a, (k1_off98 v1062) a + S1x1x32x96.size a ≤ S3x16x136x96.size a := fun v1062 k1_hw6 => k1_hw6.2.2.2.2.2.2.2.1
theorem k1_off99_inb : ∀ (v1062 : BitVec 32) (k1_hw6 : k1_chk6 v1062), ∀ a, (k1_off99 v1062) a + S1x1x40x96.size a ≤ S3x16x136x96.size a := fun v1062 k1_hw6 => k1_hw6.2.2.2.2.2.2.2.2.1
theorem k1_off100_inb : ∀ (v1062 : BitVec 32) (k1_hw6 : k1_chk6 v1062), ∀ a, (k1_off100 v1062) a + S1x1x48x96.size a ≤ S3x16x136x96.size a := fun v1062 k1_hw6 => k1_hw6.2.2.2.2.2.2.2.2.2.1
theorem k1_off101_inb : ∀ (v1062 : BitVec 32) (k1_hw6 : k1_chk6 v1062), ∀ a, (k1_off101 v1062) a + S1x1x56x96.size a ≤ S3x16x136x96.size a := fun v1062 k1_hw6 => k1_hw6.2.2.2.2.2.2.2.2.2.2.1
theorem k1_off102_inb : ∀ (v1062 : BitVec 32) (k1_hw6 : k1_chk6 v1062), ∀ a, (k1_off102 v1062) a + S1x1x72x96.size a ≤ S3x16x136x96.size a := fun v1062 k1_hw6 => k1_hw6.2.2.2.2.2.2.2.2.2.2.2.1
theorem k1_off103_inb : ∀ (v1062 : BitVec 32) (k1_hw6 : k1_chk6 v1062), ∀ a, (k1_off103 v1062) a + S1x1x80x96.size a ≤ S3x16x136x96.size a := fun v1062 k1_hw6 => k1_hw6.2.2.2.2.2.2.2.2.2.2.2.2.1
theorem k1_off104_inb : ∀ (v1062 : BitVec 32) (k1_hw6 : k1_chk6 v1062), ∀ a, (k1_off104 v1062) a + S1x1x96x96.size a ≤ S3x16x136x96.size a := fun v1062 k1_hw6 => k1_hw6.2.2.2.2.2.2.2.2.2.2.2.2.2.1
theorem k1_off105_inb : ∀ (v1062 : BitVec 32) (k1_hw6 : k1_chk6 v1062), ∀ a, (k1_off105 v1062) a + S1x1x112x96.size a ≤ S3x16x136x96.size a := fun v1062 k1_hw6 => k1_hw6.2.2.2.2.2.2.2.2.2.2.2.2.2.2.1
theorem k1_off106_inb : ∀ (v1062 : BitVec 32) (k1_hw6 : k1_chk6 v1062), ∀ a, (k1_off106 v1062) a + S1x1x120x96.size a ≤ S3x16x136x96.size a := fun v1062 k1_hw6 => k1_hw6.2.2.2.2.2.2.2.2.2.2.2.2.2.2.2.1
theorem k1_off107_inb : ∀ (v1062 : BitVec 32) (k1_hw6 : k1_chk6 v1062), ∀ a, (k1_off107 v1062) a + S1x1x136x96.size a ≤ S3x16x136x96.size a := fun v1062 k1_hw6 => k1_hw6.2.2.2.2.2.2.2.2.2.2.2.2.2.2.2.2.1
theorem k1_off108_inb : ∀ (v1062 : BitVec 32) (k1_hw6 : k1_chk6 v1062), ∀ a, (k1_off108 v1062) a + S1x16x96.size a ≤ S3x16x96.size a := fun v1062 k1_hw6 => k1_hw6.2.2.2.2.2.2.2.2.2.2.2.2.2.2.2.2.2

def k1_off109 (v1274 : BitVec 32) : Fin 3 → Nat :=
  let v1281 : Index := Scalar.indexCast v1274
  let c0_391 : Index := 0#32
  let c0_392 : Index := 0#32
  ![v1281.toNat, 0, 0]

def k1_off110 (v1274 : BitVec 32) : Fin 4 → Nat :=
  let v1285 : Index := Scalar.indexCast v1274
  let c0_393 : Index := 0#32
  let c0_394 : Index := 0#32
  let c0_395 : Index := 0#32
  ![v1285.toNat, 0, 0, 0]
def k1_off111 (v1274 : BitVec 32) : Fin 4 → Nat :=
  let v1297 : Index := Scalar.indexCast v1274
  let c1_396 : Index := 1#32
  let c0_397 : Index := 0#32
  let c0_398 : Index := 0#32
  ![v1297.toNat, 1, 0, 0]
def k1_off112 (v1274 : BitVec 32) : Fin 4 → Nat :=
  let v1309 : Index := Scalar.indexCast v1274
  let c2_399 : Index := 2#32
  let c0_400 : Index := 0#32
  let c0_401 : Index := 0#32
  ![v1309.toNat, 2, 0, 0]
def k1_off113 (v1274 : BitVec 32) : Fin 4 → Nat :=
  let v1321 : Index := Scalar.indexCast v1274
  let c3_402 : Index := 3#32
  let c0_403 : Index := 0#32
  let c0_404 : Index := 0#32
  ![v1321.toNat, 3, 0, 0]
def k1_off114 (v1274 : BitVec 32) : Fin 4 → Nat :=
  let v1333 : Index := Scalar.indexCast v1274
  let c4_405 : Index := 4#32
  let c0_406 : Index := 0#32
  let c0_407 : Index := 0#32
  ![v1333.toNat, 4, 0, 0]
def k1_off115 (v1274 : BitVec 32) : Fin 4 → Nat :=
  let v1345 : Index := Scalar.indexCast v1274
  let c5_408 : Index := 5#32
  let c0_409 : Index := 0#32
  let c0_410 : Index := 0#32
  ![v1345.toNat, 5, 0, 0]
def k1_off116 (v1274 : BitVec 32) : Fin 4 → Nat :=
  let v1357 : Index := Scalar.indexCast v1274
  let c6_411 : Index := 6#32
  let c0_412 : Index := 0#32
  let c0_413 : Index := 0#32
  ![v1357.toNat, 6, 0, 0]
def k1_off117 (v1274 : BitVec 32) : Fin 4 → Nat :=
  let v1369 : Index := Scalar.indexCast v1274
  let c7_414 : Index := 7#32
  let c0_415 : Index := 0#32
  let c0_416 : Index := 0#32
  ![v1369.toNat, 7, 0, 0]
def k1_off118 (v1274 : BitVec 32) : Fin 4 → Nat :=
  let v1381 : Index := Scalar.indexCast v1274
  let c8_417 : Index := 8#32
  let c0_418 : Index := 0#32
  let c0_419 : Index := 0#32
  ![v1381.toNat, 8, 0, 0]
def k1_off119 (v1274 : BitVec 32) : Fin 4 → Nat :=
  let v1393 : Index := Scalar.indexCast v1274
  let c9_420 : Index := 9#32
  let c0_421 : Index := 0#32
  let c0_422 : Index := 0#32
  ![v1393.toNat, 9, 0, 0]
def k1_off120 (v1274 : BitVec 32) : Fin 4 → Nat :=
  let v1405 : Index := Scalar.indexCast v1274
  let c10_423 : Index := 10#32
  let c0_424 : Index := 0#32
  let c0_425 : Index := 0#32
  ![v1405.toNat, 10, 0, 0]
def k1_off121 (v1274 : BitVec 32) : Fin 4 → Nat :=
  let v1417 : Index := Scalar.indexCast v1274
  let c11_426 : Index := 11#32
  let c0_427 : Index := 0#32
  let c0_428 : Index := 0#32
  ![v1417.toNat, 11, 0, 0]
def k1_off122 (v1274 : BitVec 32) : Fin 4 → Nat :=
  let v1429 : Index := Scalar.indexCast v1274
  let c12_429 : Index := 12#32
  let c0_430 : Index := 0#32
  let c0_431 : Index := 0#32
  ![v1429.toNat, 12, 0, 0]
def k1_off123 (v1274 : BitVec 32) : Fin 4 → Nat :=
  let v1441 : Index := Scalar.indexCast v1274
  let c13_432 : Index := 13#32
  let c0_433 : Index := 0#32
  let c0_434 : Index := 0#32
  ![v1441.toNat, 13, 0, 0]
def k1_off124 (v1274 : BitVec 32) : Fin 4 → Nat :=
  let v1453 : Index := Scalar.indexCast v1274
  let c14_435 : Index := 14#32
  let c0_436 : Index := 0#32
  let c0_437 : Index := 0#32
  ![v1453.toNat, 14, 0, 0]
def k1_off125 (v1274 : BitVec 32) : Fin 4 → Nat :=
  let v1464 : Index := Scalar.indexCast v1274
  let c15_438 : Index := 15#32
  let c0_439 : Index := 0#32
  let c0_440 : Index := 0#32
  ![v1464.toNat, 15, 0, 0]
def k1_off126 (v1274 : BitVec 32) : Fin 3 → Nat :=
  let v1475 : Index := Scalar.indexCast v1274
  let c0_441 : Index := 0#32
  let c0_442 : Index := 0#32
  ![v1475.toNat, 0, 0]

def k1_chk7 (v1274 : BitVec 32) : Prop :=
  (∀ a, (k1_off109 v1274) a + S1x136x96.size a ≤ S3x136x96.size a) ∧
  (∀ a, (k1_off110 v1274) a + S1x1x8x96.size a ≤ S3x16x136x96.size a) ∧
  (∀ a, (k1_off111 v1274) a + S1x1x8x96.size a ≤ S3x16x136x96.size a) ∧
  (∀ a, (k1_off112 v1274) a + S1x1x8x96.size a ≤ S3x16x136x96.size a) ∧
  (∀ a, (k1_off113 v1274) a + S1x1x16x96.size a ≤ S3x16x136x96.size a) ∧
  (∀ a, (k1_off114 v1274) a + S1x1x16x96.size a ≤ S3x16x136x96.size a) ∧
  (∀ a, (k1_off115 v1274) a + S1x1x24x96.size a ≤ S3x16x136x96.size a) ∧
  (∀ a, (k1_off116 v1274) a + S1x1x32x96.size a ≤ S3x16x136x96.size a) ∧
  (∀ a, (k1_off117 v1274) a + S1x1x40x96.size a ≤ S3x16x136x96.size a) ∧
  (∀ a, (k1_off118 v1274) a + S1x1x48x96.size a ≤ S3x16x136x96.size a) ∧
  (∀ a, (k1_off119 v1274) a + S1x1x56x96.size a ≤ S3x16x136x96.size a) ∧
  (∀ a, (k1_off120 v1274) a + S1x1x72x96.size a ≤ S3x16x136x96.size a) ∧
  (∀ a, (k1_off121 v1274) a + S1x1x80x96.size a ≤ S3x16x136x96.size a) ∧
  (∀ a, (k1_off122 v1274) a + S1x1x96x96.size a ≤ S3x16x136x96.size a) ∧
  (∀ a, (k1_off123 v1274) a + S1x1x112x96.size a ≤ S3x16x136x96.size a) ∧
  (∀ a, (k1_off124 v1274) a + S1x1x120x96.size a ≤ S3x16x136x96.size a) ∧
  (∀ a, (k1_off125 v1274) a + S1x1x136x96.size a ≤ S3x16x136x96.size a) ∧
  (∀ a, (k1_off126 v1274) a + S1x16x96.size a ≤ S3x16x96.size a)
theorem k1_off109_inb : ∀ (v1274 : BitVec 32) (k1_hw7 : k1_chk7 v1274), ∀ a, (k1_off109 v1274) a + S1x136x96.size a ≤ S3x136x96.size a := fun v1274 k1_hw7 => k1_hw7.1
theorem k1_off110_inb : ∀ (v1274 : BitVec 32) (k1_hw7 : k1_chk7 v1274), ∀ a, (k1_off110 v1274) a + S1x1x8x96.size a ≤ S3x16x136x96.size a := fun v1274 k1_hw7 => k1_hw7.2.1
theorem k1_off111_inb : ∀ (v1274 : BitVec 32) (k1_hw7 : k1_chk7 v1274), ∀ a, (k1_off111 v1274) a + S1x1x8x96.size a ≤ S3x16x136x96.size a := fun v1274 k1_hw7 => k1_hw7.2.2.1
theorem k1_off112_inb : ∀ (v1274 : BitVec 32) (k1_hw7 : k1_chk7 v1274), ∀ a, (k1_off112 v1274) a + S1x1x8x96.size a ≤ S3x16x136x96.size a := fun v1274 k1_hw7 => k1_hw7.2.2.2.1
theorem k1_off113_inb : ∀ (v1274 : BitVec 32) (k1_hw7 : k1_chk7 v1274), ∀ a, (k1_off113 v1274) a + S1x1x16x96.size a ≤ S3x16x136x96.size a := fun v1274 k1_hw7 => k1_hw7.2.2.2.2.1
theorem k1_off114_inb : ∀ (v1274 : BitVec 32) (k1_hw7 : k1_chk7 v1274), ∀ a, (k1_off114 v1274) a + S1x1x16x96.size a ≤ S3x16x136x96.size a := fun v1274 k1_hw7 => k1_hw7.2.2.2.2.2.1
theorem k1_off115_inb : ∀ (v1274 : BitVec 32) (k1_hw7 : k1_chk7 v1274), ∀ a, (k1_off115 v1274) a + S1x1x24x96.size a ≤ S3x16x136x96.size a := fun v1274 k1_hw7 => k1_hw7.2.2.2.2.2.2.1
theorem k1_off116_inb : ∀ (v1274 : BitVec 32) (k1_hw7 : k1_chk7 v1274), ∀ a, (k1_off116 v1274) a + S1x1x32x96.size a ≤ S3x16x136x96.size a := fun v1274 k1_hw7 => k1_hw7.2.2.2.2.2.2.2.1
theorem k1_off117_inb : ∀ (v1274 : BitVec 32) (k1_hw7 : k1_chk7 v1274), ∀ a, (k1_off117 v1274) a + S1x1x40x96.size a ≤ S3x16x136x96.size a := fun v1274 k1_hw7 => k1_hw7.2.2.2.2.2.2.2.2.1
theorem k1_off118_inb : ∀ (v1274 : BitVec 32) (k1_hw7 : k1_chk7 v1274), ∀ a, (k1_off118 v1274) a + S1x1x48x96.size a ≤ S3x16x136x96.size a := fun v1274 k1_hw7 => k1_hw7.2.2.2.2.2.2.2.2.2.1
theorem k1_off119_inb : ∀ (v1274 : BitVec 32) (k1_hw7 : k1_chk7 v1274), ∀ a, (k1_off119 v1274) a + S1x1x56x96.size a ≤ S3x16x136x96.size a := fun v1274 k1_hw7 => k1_hw7.2.2.2.2.2.2.2.2.2.2.1
theorem k1_off120_inb : ∀ (v1274 : BitVec 32) (k1_hw7 : k1_chk7 v1274), ∀ a, (k1_off120 v1274) a + S1x1x72x96.size a ≤ S3x16x136x96.size a := fun v1274 k1_hw7 => k1_hw7.2.2.2.2.2.2.2.2.2.2.2.1
theorem k1_off121_inb : ∀ (v1274 : BitVec 32) (k1_hw7 : k1_chk7 v1274), ∀ a, (k1_off121 v1274) a + S1x1x80x96.size a ≤ S3x16x136x96.size a := fun v1274 k1_hw7 => k1_hw7.2.2.2.2.2.2.2.2.2.2.2.2.1
theorem k1_off122_inb : ∀ (v1274 : BitVec 32) (k1_hw7 : k1_chk7 v1274), ∀ a, (k1_off122 v1274) a + S1x1x96x96.size a ≤ S3x16x136x96.size a := fun v1274 k1_hw7 => k1_hw7.2.2.2.2.2.2.2.2.2.2.2.2.2.1
theorem k1_off123_inb : ∀ (v1274 : BitVec 32) (k1_hw7 : k1_chk7 v1274), ∀ a, (k1_off123 v1274) a + S1x1x112x96.size a ≤ S3x16x136x96.size a := fun v1274 k1_hw7 => k1_hw7.2.2.2.2.2.2.2.2.2.2.2.2.2.2.1
theorem k1_off124_inb : ∀ (v1274 : BitVec 32) (k1_hw7 : k1_chk7 v1274), ∀ a, (k1_off124 v1274) a + S1x1x120x96.size a ≤ S3x16x136x96.size a := fun v1274 k1_hw7 => k1_hw7.2.2.2.2.2.2.2.2.2.2.2.2.2.2.2.1
theorem k1_off125_inb : ∀ (v1274 : BitVec 32) (k1_hw7 : k1_chk7 v1274), ∀ a, (k1_off125 v1274) a + S1x1x136x96.size a ≤ S3x16x136x96.size a := fun v1274 k1_hw7 => k1_hw7.2.2.2.2.2.2.2.2.2.2.2.2.2.2.2.2.1
theorem k1_off126_inb : ∀ (v1274 : BitVec 32) (k1_hw7 : k1_chk7 v1274), ∀ a, (k1_off126 v1274) a + S1x16x96.size a ≤ S3x16x96.size a := fun v1274 k1_hw7 => k1_hw7.2.2.2.2.2.2.2.2.2.2.2.2.2.2.2.2.2

def k1_off127 (v1486 : BitVec 32) : Fin 3 → Nat :=
  let v1493 : Index := Scalar.indexCast v1486
  let c0_457 : Index := 0#32
  let c0_458 : Index := 0#32
  ![v1493.toNat, 0, 0]

def k1_off128 (v1486 : BitVec 32) : Fin 4 → Nat :=
  let v1497 : Index := Scalar.indexCast v1486
  let c0_459 : Index := 0#32
  let c0_460 : Index := 0#32
  let c0_461 : Index := 0#32
  ![v1497.toNat, 0, 0, 0]
def k1_off129 (v1486 : BitVec 32) : Fin 4 → Nat :=
  let v1509 : Index := Scalar.indexCast v1486
  let c1_462 : Index := 1#32
  let c0_463 : Index := 0#32
  let c0_464 : Index := 0#32
  ![v1509.toNat, 1, 0, 0]
def k1_off130 (v1486 : BitVec 32) : Fin 4 → Nat :=
  let v1521 : Index := Scalar.indexCast v1486
  let c2_465 : Index := 2#32
  let c0_466 : Index := 0#32
  let c0_467 : Index := 0#32
  ![v1521.toNat, 2, 0, 0]
def k1_off131 (v1486 : BitVec 32) : Fin 4 → Nat :=
  let v1533 : Index := Scalar.indexCast v1486
  let c3_468 : Index := 3#32
  let c0_469 : Index := 0#32
  let c0_470 : Index := 0#32
  ![v1533.toNat, 3, 0, 0]
def k1_off132 (v1486 : BitVec 32) : Fin 4 → Nat :=
  let v1545 : Index := Scalar.indexCast v1486
  let c4_471 : Index := 4#32
  let c0_472 : Index := 0#32
  let c0_473 : Index := 0#32
  ![v1545.toNat, 4, 0, 0]
def k1_off133 (v1486 : BitVec 32) : Fin 4 → Nat :=
  let v1557 : Index := Scalar.indexCast v1486
  let c5_474 : Index := 5#32
  let c0_475 : Index := 0#32
  let c0_476 : Index := 0#32
  ![v1557.toNat, 5, 0, 0]
def k1_off134 (v1486 : BitVec 32) : Fin 4 → Nat :=
  let v1569 : Index := Scalar.indexCast v1486
  let c6_477 : Index := 6#32
  let c0_478 : Index := 0#32
  let c0_479 : Index := 0#32
  ![v1569.toNat, 6, 0, 0]
def k1_off135 (v1486 : BitVec 32) : Fin 4 → Nat :=
  let v1581 : Index := Scalar.indexCast v1486
  let c7_480 : Index := 7#32
  let c0_481 : Index := 0#32
  let c0_482 : Index := 0#32
  ![v1581.toNat, 7, 0, 0]
def k1_off136 (v1486 : BitVec 32) : Fin 4 → Nat :=
  let v1593 : Index := Scalar.indexCast v1486
  let c8_483 : Index := 8#32
  let c0_484 : Index := 0#32
  let c0_485 : Index := 0#32
  ![v1593.toNat, 8, 0, 0]
def k1_off137 (v1486 : BitVec 32) : Fin 4 → Nat :=
  let v1605 : Index := Scalar.indexCast v1486
  let c9_486 : Index := 9#32
  let c0_487 : Index := 0#32
  let c0_488 : Index := 0#32
  ![v1605.toNat, 9, 0, 0]
def k1_off138 (v1486 : BitVec 32) : Fin 4 → Nat :=
  let v1617 : Index := Scalar.indexCast v1486
  let c10_489 : Index := 10#32
  let c0_490 : Index := 0#32
  let c0_491 : Index := 0#32
  ![v1617.toNat, 10, 0, 0]
def k1_off139 (v1486 : BitVec 32) : Fin 4 → Nat :=
  let v1629 : Index := Scalar.indexCast v1486
  let c11_492 : Index := 11#32
  let c0_493 : Index := 0#32
  let c0_494 : Index := 0#32
  ![v1629.toNat, 11, 0, 0]
def k1_off140 (v1486 : BitVec 32) : Fin 4 → Nat :=
  let v1641 : Index := Scalar.indexCast v1486
  let c12_495 : Index := 12#32
  let c0_496 : Index := 0#32
  let c0_497 : Index := 0#32
  ![v1641.toNat, 12, 0, 0]
def k1_off141 (v1486 : BitVec 32) : Fin 4 → Nat :=
  let v1653 : Index := Scalar.indexCast v1486
  let c13_498 : Index := 13#32
  let c0_499 : Index := 0#32
  let c0_500 : Index := 0#32
  ![v1653.toNat, 13, 0, 0]
def k1_off142 (v1486 : BitVec 32) : Fin 4 → Nat :=
  let v1665 : Index := Scalar.indexCast v1486
  let c14_501 : Index := 14#32
  let c0_502 : Index := 0#32
  let c0_503 : Index := 0#32
  ![v1665.toNat, 14, 0, 0]
def k1_off143 (v1486 : BitVec 32) : Fin 4 → Nat :=
  let v1676 : Index := Scalar.indexCast v1486
  let c15_504 : Index := 15#32
  let c0_505 : Index := 0#32
  let c0_506 : Index := 0#32
  ![v1676.toNat, 15, 0, 0]
def k1_off144 (v1486 : BitVec 32) : Fin 3 → Nat :=
  let v1687 : Index := Scalar.indexCast v1486
  let c0_507 : Index := 0#32
  let c0_508 : Index := 0#32
  ![v1687.toNat, 0, 0]

def k1_chk8 (v1486 : BitVec 32) : Prop :=
  (∀ a, (k1_off127 v1486) a + S1x136x96.size a ≤ S3x136x96.size a) ∧
  (∀ a, (k1_off128 v1486) a + S1x1x8x96.size a ≤ S3x16x136x96.size a) ∧
  (∀ a, (k1_off129 v1486) a + S1x1x8x96.size a ≤ S3x16x136x96.size a) ∧
  (∀ a, (k1_off130 v1486) a + S1x1x8x96.size a ≤ S3x16x136x96.size a) ∧
  (∀ a, (k1_off131 v1486) a + S1x1x16x96.size a ≤ S3x16x136x96.size a) ∧
  (∀ a, (k1_off132 v1486) a + S1x1x16x96.size a ≤ S3x16x136x96.size a) ∧
  (∀ a, (k1_off133 v1486) a + S1x1x24x96.size a ≤ S3x16x136x96.size a) ∧
  (∀ a, (k1_off134 v1486) a + S1x1x32x96.size a ≤ S3x16x136x96.size a) ∧
  (∀ a, (k1_off135 v1486) a + S1x1x40x96.size a ≤ S3x16x136x96.size a) ∧
  (∀ a, (k1_off136 v1486) a + S1x1x48x96.size a ≤ S3x16x136x96.size a) ∧
  (∀ a, (k1_off137 v1486) a + S1x1x56x96.size a ≤ S3x16x136x96.size a) ∧
  (∀ a, (k1_off138 v1486) a + S1x1x72x96.size a ≤ S3x16x136x96.size a) ∧
  (∀ a, (k1_off139 v1486) a + S1x1x80x96.size a ≤ S3x16x136x96.size a) ∧
  (∀ a, (k1_off140 v1486) a + S1x1x96x96.size a ≤ S3x16x136x96.size a) ∧
  (∀ a, (k1_off141 v1486) a + S1x1x112x96.size a ≤ S3x16x136x96.size a) ∧
  (∀ a, (k1_off142 v1486) a + S1x1x120x96.size a ≤ S3x16x136x96.size a) ∧
  (∀ a, (k1_off143 v1486) a + S1x1x136x96.size a ≤ S3x16x136x96.size a) ∧
  (∀ a, (k1_off144 v1486) a + S1x16x96.size a ≤ S3x16x96.size a)
theorem k1_off127_inb : ∀ (v1486 : BitVec 32) (k1_hw8 : k1_chk8 v1486), ∀ a, (k1_off127 v1486) a + S1x136x96.size a ≤ S3x136x96.size a := fun v1486 k1_hw8 => k1_hw8.1
theorem k1_off128_inb : ∀ (v1486 : BitVec 32) (k1_hw8 : k1_chk8 v1486), ∀ a, (k1_off128 v1486) a + S1x1x8x96.size a ≤ S3x16x136x96.size a := fun v1486 k1_hw8 => k1_hw8.2.1
theorem k1_off129_inb : ∀ (v1486 : BitVec 32) (k1_hw8 : k1_chk8 v1486), ∀ a, (k1_off129 v1486) a + S1x1x8x96.size a ≤ S3x16x136x96.size a := fun v1486 k1_hw8 => k1_hw8.2.2.1
theorem k1_off130_inb : ∀ (v1486 : BitVec 32) (k1_hw8 : k1_chk8 v1486), ∀ a, (k1_off130 v1486) a + S1x1x8x96.size a ≤ S3x16x136x96.size a := fun v1486 k1_hw8 => k1_hw8.2.2.2.1
theorem k1_off131_inb : ∀ (v1486 : BitVec 32) (k1_hw8 : k1_chk8 v1486), ∀ a, (k1_off131 v1486) a + S1x1x16x96.size a ≤ S3x16x136x96.size a := fun v1486 k1_hw8 => k1_hw8.2.2.2.2.1
theorem k1_off132_inb : ∀ (v1486 : BitVec 32) (k1_hw8 : k1_chk8 v1486), ∀ a, (k1_off132 v1486) a + S1x1x16x96.size a ≤ S3x16x136x96.size a := fun v1486 k1_hw8 => k1_hw8.2.2.2.2.2.1
theorem k1_off133_inb : ∀ (v1486 : BitVec 32) (k1_hw8 : k1_chk8 v1486), ∀ a, (k1_off133 v1486) a + S1x1x24x96.size a ≤ S3x16x136x96.size a := fun v1486 k1_hw8 => k1_hw8.2.2.2.2.2.2.1
theorem k1_off134_inb : ∀ (v1486 : BitVec 32) (k1_hw8 : k1_chk8 v1486), ∀ a, (k1_off134 v1486) a + S1x1x32x96.size a ≤ S3x16x136x96.size a := fun v1486 k1_hw8 => k1_hw8.2.2.2.2.2.2.2.1
theorem k1_off135_inb : ∀ (v1486 : BitVec 32) (k1_hw8 : k1_chk8 v1486), ∀ a, (k1_off135 v1486) a + S1x1x40x96.size a ≤ S3x16x136x96.size a := fun v1486 k1_hw8 => k1_hw8.2.2.2.2.2.2.2.2.1
theorem k1_off136_inb : ∀ (v1486 : BitVec 32) (k1_hw8 : k1_chk8 v1486), ∀ a, (k1_off136 v1486) a + S1x1x48x96.size a ≤ S3x16x136x96.size a := fun v1486 k1_hw8 => k1_hw8.2.2.2.2.2.2.2.2.2.1
theorem k1_off137_inb : ∀ (v1486 : BitVec 32) (k1_hw8 : k1_chk8 v1486), ∀ a, (k1_off137 v1486) a + S1x1x56x96.size a ≤ S3x16x136x96.size a := fun v1486 k1_hw8 => k1_hw8.2.2.2.2.2.2.2.2.2.2.1
theorem k1_off138_inb : ∀ (v1486 : BitVec 32) (k1_hw8 : k1_chk8 v1486), ∀ a, (k1_off138 v1486) a + S1x1x72x96.size a ≤ S3x16x136x96.size a := fun v1486 k1_hw8 => k1_hw8.2.2.2.2.2.2.2.2.2.2.2.1
theorem k1_off139_inb : ∀ (v1486 : BitVec 32) (k1_hw8 : k1_chk8 v1486), ∀ a, (k1_off139 v1486) a + S1x1x80x96.size a ≤ S3x16x136x96.size a := fun v1486 k1_hw8 => k1_hw8.2.2.2.2.2.2.2.2.2.2.2.2.1
theorem k1_off140_inb : ∀ (v1486 : BitVec 32) (k1_hw8 : k1_chk8 v1486), ∀ a, (k1_off140 v1486) a + S1x1x96x96.size a ≤ S3x16x136x96.size a := fun v1486 k1_hw8 => k1_hw8.2.2.2.2.2.2.2.2.2.2.2.2.2.1
theorem k1_off141_inb : ∀ (v1486 : BitVec 32) (k1_hw8 : k1_chk8 v1486), ∀ a, (k1_off141 v1486) a + S1x1x112x96.size a ≤ S3x16x136x96.size a := fun v1486 k1_hw8 => k1_hw8.2.2.2.2.2.2.2.2.2.2.2.2.2.2.1
theorem k1_off142_inb : ∀ (v1486 : BitVec 32) (k1_hw8 : k1_chk8 v1486), ∀ a, (k1_off142 v1486) a + S1x1x120x96.size a ≤ S3x16x136x96.size a := fun v1486 k1_hw8 => k1_hw8.2.2.2.2.2.2.2.2.2.2.2.2.2.2.2.1
theorem k1_off143_inb : ∀ (v1486 : BitVec 32) (k1_hw8 : k1_chk8 v1486), ∀ a, (k1_off143 v1486) a + S1x1x136x96.size a ≤ S3x16x136x96.size a := fun v1486 k1_hw8 => k1_hw8.2.2.2.2.2.2.2.2.2.2.2.2.2.2.2.2.1
theorem k1_off144_inb : ∀ (v1486 : BitVec 32) (k1_hw8 : k1_chk8 v1486), ∀ a, (k1_off144 v1486) a + S1x16x96.size a ≤ S3x16x96.size a := fun v1486 k1_hw8 => k1_hw8.2.2.2.2.2.2.2.2.2.2.2.2.2.2.2.2.2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x16x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x16x136x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x136x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x16x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S136x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S136x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S2048x16x96 : Shape := ⟨3, ![2048, 16, 96]⟩
abbrev S2048 : Shape := ⟨1, ![2048]⟩
abbrev S16x16x16x23 : Shape := ⟨4, ![16, 16, 16, 23]⟩
abbrev S16x16x4 : Shape := ⟨3, ![16, 16, 4]⟩
abbrev S16x1 : Shape := ⟨2, ![16, 1]⟩
abbrev S3x23x96 : Shape := ⟨3, ![3, 23, 96]⟩
abbrev S3x4x96 : Shape := ⟨3, ![3, 4, 96]⟩
abbrev S3x1x96 : Shape := ⟨3, ![3, 1, 96]⟩
abbrev S2048x1 : Shape := ⟨2, ![2048, 1]⟩
abbrev S1x3 : Shape := ⟨2, ![1, 3]⟩
abbrev S2048x3 : Shape := ⟨2, ![2048, 3]⟩
abbrev S3x96x16x16x16 : Shape := ⟨5, ![3, 96, 16, 16, 16]⟩
abbrev S3x16x16x16x96 : Shape := ⟨5, ![3, 16, 16, 16, 96]⟩
abbrev S3x96x16x16 : Shape := ⟨4, ![3, 96, 16, 16]⟩
abbrev S3x16x16x96 : Shape := ⟨4, ![3, 16, 16, 96]⟩
abbrev S3x96x16 : Shape := ⟨3, ![3, 96, 16]⟩
abbrev S3x16x96 : Shape := ⟨3, ![3, 16, 96]⟩
abbrev S2048x3x1x1 : Shape := ⟨4, ![2048, 3, 1, 1]⟩
abbrev S2048x1x16x96 : Shape := ⟨4, ![2048, 1, 16, 96]⟩
abbrev S2048x3x16x96 : Shape := ⟨4, ![2048, 3, 16, 96]⟩
abbrev S96x2048x16x16 : Shape := ⟨4, ![96, 2048, 16, 16]⟩
abbrev S2048x16x16x96 : Shape := ⟨4, ![2048, 16, 16, 96]⟩
abbrev S_ : Shape := ⟨0, ![]⟩
abbrev S1 : Shape := ⟨1, ![1]⟩
abbrev S1x1 : Shape := ⟨2, ![1, 1]⟩
abbrev S2048x96x16 : Shape := ⟨3, ![2048, 96, 16]⟩
abbrev S2048x96 : Shape := ⟨2, ![2048, 96]⟩

abbrev nBuf : Space → Nat
  | .hbm => 78
  | .vmem => 0
  | .smem => 0
  | _ => 0

abbrev bufTy : (tb : Table) → Fin (tcTables nBuf tb) → BufTy
  | .hbm, ⟨0, _⟩ => ⟨S2048x16x96, .f32⟩
  | .hbm, ⟨1, _⟩ => ⟨S2048, .i32⟩
  | .hbm, ⟨2, _⟩ => ⟨S16x16x16x23, .f32⟩
  | .hbm, ⟨3, _⟩ => ⟨S16x16x4, .f32⟩
  | .hbm, ⟨4, _⟩ => ⟨S16x1, .f32⟩
  | .hbm, ⟨5, _⟩ => ⟨S3x23x96, .f32⟩
  | .hbm, ⟨6, _⟩ => ⟨S3x4x96, .f32⟩
  | .hbm, ⟨7, _⟩ => ⟨S3x1x96, .f32⟩
  | .hbm, ⟨8, _⟩ => ⟨S2048x1, .i32⟩
  | .hbm, ⟨9, _⟩ => ⟨S1x3, .i32⟩
  | .hbm, ⟨10, _⟩ => ⟨S2048x3, .i32⟩
  | .hbm, ⟨11, _⟩ => ⟨S2048x3, .i32⟩
  | .hbm, ⟨12, _⟩ => ⟨S2048x3, .i1⟩
  | .hbm, ⟨13, _⟩ => ⟨S2048x3, .f32⟩
  | .hbm, ⟨14, _⟩ => ⟨S3x96x16x16x16, .f32⟩
  | .hbm, ⟨15, _⟩ => ⟨S3x16x16x16x96, .f32⟩
  | .hbm, ⟨16, _⟩ => ⟨S3x96x16x16, .f32⟩
  | .hbm, ⟨17, _⟩ => ⟨S3x16x16x96, .f32⟩
  | .hbm, ⟨18, _⟩ => ⟨S3x96x16, .f32⟩
  | .hbm, ⟨19, _⟩ => ⟨S3x16x96, .f32⟩
  | .hbm, ⟨20, _⟩ => ⟨S2048x3x1x1, .f32⟩
  | .hbm, ⟨21, _⟩ => ⟨S2048x1x16x96, .f32⟩
  | .hbm, ⟨22, _⟩ => ⟨S2048x3x16x96, .f32⟩
  | .hbm, ⟨23, _⟩ => ⟨S2048x3x16x96, .f32⟩
  | .hbm, ⟨24, _⟩ => ⟨S2048x3x16x96, .f32⟩
  | .hbm, ⟨25, _⟩ => ⟨S96x2048x16x16, .f32⟩
  | .hbm, ⟨26, _⟩ => ⟨S2048x16x16x96, .f32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S1, .i32⟩
  | .hbm, ⟨36, _⟩ => ⟨S_, .i32⟩
  | .hbm, ⟨37, _⟩ => ⟨S2048x1, .i32⟩
  | .hbm, ⟨38, _⟩ => ⟨S2048x1, .i1⟩
  | .hbm, ⟨39, _⟩ => ⟨S1x1, .i32⟩
  | .hbm, ⟨40, _⟩ => ⟨S2048x1, .i32⟩
  | .hbm, ⟨41, _⟩ => ⟨S2048x1, .i1⟩
  | .hbm, ⟨42, _⟩ => ⟨S2048x1, .i1⟩
  | .hbm, ⟨43, _⟩ => ⟨S_, .i1⟩
  | .hbm, ⟨44, _⟩ => ⟨S2048, .i1⟩
  | .hbm, ⟨45, _⟩ => ⟨S2048x16x16x96, .f32⟩
  | .hbm, ⟨46, _⟩ => ⟨S2048x16x16x96, .i1⟩
  | .hbm, ⟨47, _⟩ => ⟨S_, .f32⟩
  | .hbm, ⟨48, _⟩ => ⟨S2048x16x16x96, .f32⟩
  | .hbm, ⟨49, _⟩ => ⟨S2048x16x16x96, .f32⟩
  | .hbm, ⟨50, _⟩ => ⟨S2048x16x16x96, .f32⟩
  | .hbm, ⟨51, _⟩ => ⟨S2048x96x16, .f32⟩
  | .hbm, ⟨52, _⟩ => ⟨S2048x16x96, .f32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S2048x1, .i32⟩
  | .hbm, ⟨61, _⟩ => ⟨S1, .i32⟩
  | .hbm, ⟨62, _⟩ => ⟨S_, .i32⟩
  | .hbm, ⟨63, _⟩ => ⟨S2048x1, .i32⟩
  | .hbm, ⟨64, _⟩ => ⟨S2048x1, .i1⟩
  | .hbm, ⟨65, _⟩ => ⟨S1x1, .i32⟩
  | .hbm, ⟨66, _⟩ => ⟨S2048x1, .i32⟩
  | .hbm, ⟨67, _⟩ => ⟨S2048x1, .i1⟩
  | .hbm, ⟨68, _⟩ => ⟨S2048x1, .i1⟩
  | .hbm, ⟨69, _⟩ => ⟨S_, .i1⟩
  | .hbm, ⟨70, _⟩ => ⟨S2048, .i1⟩
  | .hbm, ⟨71, _⟩ => ⟨S2048x16x96, .f32⟩
  | .hbm, ⟨72, _⟩ => ⟨S2048x16x96, .i1⟩
  | .hbm, ⟨73, _⟩ => ⟨S_, .f32⟩
  | .hbm, ⟨74, _⟩ => ⟨S2048x16x96, .f32⟩
  | .hbm, ⟨75, _⟩ => ⟨S2048x16x96, .f32⟩
  | .hbm, ⟨76, _⟩ => ⟨S2048x16x96, .f32⟩
  | .hbm, ⟨77, _⟩ => ⟨S2048x96, .f32⟩
  | _, _ => ⟨S2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩

abbrev nD : Nat := 1
abbrev τ : Topo := Topo.v7x

variable {F : FTy → Type} [FloatOps F]
-- ==== Proof.Ideal.Tables.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The first kernel call: the one point at which the three coefficient tables are computed.
For each element the body stores one block of each table, so the three stores into a table cover it. -/

@[expose] public section

set_option maxRecDepth 16384

noncomputable section

namespace Cert.KernelIdeal.Tables

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What is read and written -/

/-- Plane `p` lies inside the stack of planes. -/
theorem perm_fits (p : Fin 6) : ∀ a, (![p.val, 0, 0] : Fin 3 → ℕ) a + S1x2176x23.size a ≤ S6x2176x23.size a := by
  revert p; decide

/-- Plane `p` of the six transposed copies of the cubic coefficients. -/
abbrev permRect (p : Fin 6) : Rect S6x2176x23 := Rect.unit (s := S6x2176x23) ![p.val, 0, 0] S1x2176x23.size (perm_fits p)

/-- All scale factors. -/
abbrev scaleRect : Rect S2176x1 := Rect.unit (s := S2176x1) ![0, 0] S2176x1.size inb_S2176x1_S2176x1_0_0
/-- All quadratic coefficients. -/
abbrev quadRect : Rect S136x4 := Rect.unit (s := S136x4) ![0, 0] S136x4.size inb_S136x4_S136x4_0_0
/-- All linear coefficients. -/
abbrev linRect : Rect S16x1 := Rect.unit (s := S16x1) ![0, 0] S16x1.size inb_S16x1_S16x1_0_0

/-- The cubic weights of element `e` lie inside their array. -/
theorem w3_fits (e : Fin 3) : ∀ a, (![e.val, 0, 0] : Fin 3 → ℕ) a + S1x23x96.size a ≤ S3x23x96.size a := by
  revert e; decide

/-- Element `e`'s block of the cubic weights. -/
abbrev w3Rect (e : Fin 3) : Rect S3x23x96 := Rect.unit (s := S3x23x96) ![e.val, 0, 0] S1x23x96.size (w3_fits e)

/-- The quadratic weights of element `e` lie inside their array. -/
theorem w2_fits (e : Fin 3) : ∀ a, (![e.val, 0, 0] : Fin 3 → ℕ) a + S1x4x96.size a ≤ S3x4x96.size a := by
  revert e; decide

/-- Element `e`'s block of the quadratic weights. -/
abbrev w2Rect (e : Fin 3) : Rect S3x4x96 := Rect.unit (s := S3x4x96) ![e.val, 0, 0] S1x4x96.size (w2_fits e)

/-- The linear weights of element `e` lie inside their array. -/
theorem w1_fits (e : Fin 3) : ∀ a, (![e.val, 0, 0] : Fin 3 → ℕ) a + S1x1x96.size a ≤ S3x1x96.size a := by
  revert e; decide

/-- Element `e`'s block of the linear weights. -/
abbrev w1Rect (e : Fin 3) : Rect S3x1x96 := Rect.unit (s := S3x1x96) ![e.val, 0, 0] S1x1x96.size (w1_fits e)

/-- The cubic table of element `e` lies inside its array. -/
theorem t3_fits (e : Fin 3) : ∀ a, (![e.val, 0, 0] : Fin 3 → ℕ) a + S1x2176x96.size a ≤ S3x2176x96.size a := by
  revert e; decide

/-- Element `e`'s block of the cubic table. -/
abbrev t3Rect (e : Fin 3) : Rect S3x2176x96 := Rect.unit (s := S3x2176x96) ![e.val, 0, 0] S1x2176x96.size (t3_fits e)

/-- The quadratic table of element `e` lies inside its array. -/
theorem t2_fits (e : Fin 3) : ∀ a, (![e.val, 0, 0] : Fin 3 → ℕ) a + S1x136x96.size a ≤ S3x136x96.size a := by
  revert e; decide

/-- Element `e`'s block of the quadratic table. -/
abbrev t2Rect (e : Fin 3) : Rect S3x136x96 := Rect.unit (s := S3x136x96) ![e.val, 0, 0] S1x136x96.size (t2_fits e)

/-- The linear table of element `e` lies inside its array. -/
theorem t1_fits (e : Fin 3) : ∀ a, (![e.val, 0, 0] : Fin 3 → ℕ) a + S1x16x96.size a ≤ S3x16x96.size a := by
  revert e; decide

/-- Element `e`'s block of the linear table. -/
abbrev t1Rect (e : Fin 3) : Rect S3x16x96 := Rect.unit (s := S3x16x96) ![e.val, 0, 0] S1x16x96.size (t1_fits e)

/-- The sum of the six planes times the scale factors, as the body computes it. -/
def scaled (g : Vec F S6x2176x23 .f32) (sc : Vec F S2176x1 .f32) : FVec F S2176x23 .f32 :=
  k0_pay2 (View.ld g (permRect 0)) (View.ld g (permRect 1)) (View.ld g (permRect 2)) (View.ld g (permRect 3))
    (View.ld g (permRect 4)) (View.ld g (permRect 5)) (View.ld sc scaleRect)

/-- Element `e`'s block of the cubic table. -/
def block3 (g : Vec F S6x2176x23 .f32) (sc : Vec F S2176x1 .f32) (w3 : Vec F S3x23x96 .f32) (e : Fin 3) : Vec F S1x2176x96 .f32 :=
  k0_pay7 (scaled g sc) (View.ld w3 (w3Rect e))

/-- Element `e`'s block of the quadratic table. -/
def block2 (u2 : Vec F S136x4 .f32) (w2 : Vec F S3x4x96 .f32) (e : Fin 3) : Vec F S1x136x96 .f32 :=
  k0_pay5 (k0_pay4 (View.ld u2 quadRect)) (View.ld w2 (w2Rect e))

/-- Element `e`'s block of the linear table. -/
def block1 (u1 : Vec F S16x1 .f32) (w1 : Vec F S3x1x96 .f32) (e : Fin 3) : Vec F S1x16x96 .f32 :=
  k0_pay6 (View.ld u1 linRect) (View.ld w1 (w1Rect e))

/-- The cubic table: the blocks of the three elements. -/
def table3 (g : Vec F S6x2176x23 .f32) (sc : Vec F S2176x1 .f32) (w3 : Vec F S3x23x96 .f32) : Vec F S3x2176x96 .f32 :=
  View.canon [⟨t3Rect 2, block3 g sc w3 2⟩, ⟨t3Rect 1, block3 g sc w3 1⟩, ⟨t3Rect 0, block3 g sc w3 0⟩]

/-- The quadratic table: the blocks of the three elements. -/
def table2 (u2 : Vec F S136x4 .f32) (w2 : Vec F S3x4x96 .f32) : Vec F S3x136x96 .f32 :=
  View.canon [⟨t2Rect 2, block2 u2 w2 2⟩, ⟨t2Rect 1, block2 u2 w2 1⟩, ⟨t2Rect 0, block2 u2 w2 0⟩]

/-- The linear table: the blocks of the three elements. -/
def table1 (u1 : Vec F S16x1 .f32) (w1 : Vec F S3x1x96 .f32) : Vec F S3x16x96 .f32 :=
  View.canon [⟨t1Rect 2, block1 u1 w1 2⟩, ⟨t1Rect 1, block1 u1 w1 1⟩, ⟨t1Rect 0, block1 u1 w1 0⟩]

/-- The three blocks cover the cubic table. -/
theorem cover3 (p0 p1 p2 : Vec F S1x2176x96 .f32) (y : S3x2176x96.Idx) :
    ∃ pc ∈ ([⟨t3Rect 2, p0⟩, ⟨t3Rect 1, p1⟩, ⟨t3Rect 0, p2⟩] : List (View.Piece (Elt F) S3x2176x96 .f32)), y ∈ pc.1.set :=
  View.cover_of_tiled [⟨t3Rect 2, p0⟩, ⟨t3Rect 1, p1⟩, ⟨t3Rect 0, p2⟩] S1x2176x96.size (by rfl) y

/-- The three blocks cover the quadratic table. -/
theorem cover2 (p0 p1 p2 : Vec F S1x136x96 .f32) (y : S3x136x96.Idx) :
    ∃ pc ∈ ([⟨t2Rect 2, p0⟩, ⟨t2Rect 1, p1⟩, ⟨t2Rect 0, p2⟩] : List (View.Piece (Elt F) S3x136x96 .f32)), y ∈ pc.1.set :=
  View.cover_of_tiled [⟨t2Rect 2, p0⟩, ⟨t2Rect 1, p1⟩, ⟨t2Rect 0, p2⟩] S1x136x96.size (by rfl) y

/-- The three blocks cover the linear table. -/
theorem cover1 (p0 p1 p2 : Vec F S1x16x96 .f32) (y : S3x16x96.Idx) :
    ∃ pc ∈ ([⟨t1Rect 2, p0⟩, ⟨t1Rect 1, p1⟩, ⟨t1Rect 0, p2⟩] : List (View.Piece (Elt F) S3x16x96 .f32)), y ∈ pc.1.set :=
  View.cover_of_tiled [⟨t1Rect 2, p0⟩, ⟨t1Rect 1, p1⟩, ⟨t1Rect 0, p2⟩] S1x16x96.size (by rfl) y

/-! ## The body -/

set_option maxHeartbeats 1000000 in
/-- The body leaves its seven inputs as they were and the three tables in its output buffers. -/
theorem body (c : Dev nD) (E : Set ℕ)
    (arg0 : Memref sig .tc .vmem S6x2176x23 .f32) (harg0 : arg0.IsWhole)
    (arg1 : Memref sig .tc .vmem S2176x1 .f32) (harg1 : arg1.IsWhole)
    (arg2 : Memref sig .tc .vmem S136x4 .f32) (harg2 : arg2.IsWhole)
    (arg3 : Memref sig .tc .vmem S16x1 .f32) (harg3 : arg3.IsWhole)
    (arg4 : Memref sig .tc .vmem S3x23x96 .f32) (harg4 : arg4.IsWhole)
    (arg5 : Memref sig .tc .vmem S3x4x96 .f32) (harg5 : arg5.IsWhole)
    (arg6 : Memref sig .tc .vmem S3x1x96 .f32) (harg6 : arg6.IsWhole)
    (arg7 : Memref sig .tc .vmem S3x2176x96 .f32) (harg7 : arg7.IsWhole)
    (arg8 : Memref sig .tc .vmem S3x136x96 .f32) (harg8 : arg8.IsWhole)
    (arg9 : Memref sig .tc .vmem S3x16x96 .f32) (harg9 : arg9.IsWhole)
    (g : Vec F S6x2176x23 .f32) (sc : Vec F S2176x1 .f32) (u2 : Vec F S136x4 .f32) (u1 : Vec F S16x1 .f32) (w3 : Vec F S3x23x96 .f32) (w2 : Vec F S3x4x96 .f32) (w1 : Vec F S3x1x96 .f32) (K : PUnit → sProp 𝕄) :
    iprop(owns (c : Thread nD τ) arg0 fullShare g
        ∗ owns (c : Thread nD τ) arg1 fullShare sc
        ∗ owns (c : Thread nD τ) arg2 fullShare u2
        ∗ owns (c : Thread nD τ) arg3 fullShare u1
        ∗ owns (c : Thread nD τ) arg4 fullShare w3
        ∗ owns (c : Thread nD τ) arg5 fullShare w2
        ∗ owns (c : Thread nD τ) arg6 fullShare w1
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg0 fullShare g
          ∗ owns (c : Thread nD τ) arg1 fullShare sc
          ∗ owns (c : Thread nD τ) arg2 fullShare u2
          ∗ owns (c : Thread nD τ) arg3 fullShare u1
          ∗ owns (c : Thread nD τ) arg4 fullShare w3
          ∗ owns (c : Thread nD τ) arg5 fullShare w2
          ∗ owns (c : Thread nD τ) arg6 fullShare w1
          ∗ owns (c : Thread nD τ) arg7 fullShare (table3 g sc w3)
          ∗ owns (c : Thread nD τ) arg8 fullShare (table2 u2 w2)
          ∗ owns (c : Thread nD τ) arg9 fullShare (table1 u1 w1)) -∗ K ⟨⟩))
      ⊢ wp frame (wpE (defs₀ (F := F)) Variants.none c none) E (cc0__uw_body arg0 harg0 arg1 harg1 arg2 harg2 arg3 harg3 arg4 harg4 arg5 harg5 arg6 harg6 arg7 harg7 arg8 harg8 arg9 harg9) K := by
  simp only [cc0__uw_body_eq_skeleton]; unfold cc0__uw_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    refine (View.read_writes_eq_canon _ _ _ (cover3 _ _ _)).trans ?_
    rfl
  isplitl [H8]
  · iexists _; isplitr
    swap; · iexact H8
    ipureintro
    refine (View.read_writes_eq_canon _ _ _ (cover2 _ _ _)).trans ?_
    rfl
  · iexists _; isplitr
    swap; · iexact H9
    ipureintro
    refine (View.read_writes_eq_canon _ _ _ (cover1 _ _ _)).trans ?_
    rfl

/-! ## The proof data -/

variable (V : (c : Dev nD) → Valuation τ sig (Elt F))

/-- Window `w`'s block at point `t`, read off its array at `V`. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The proof data: the arrays at `V`, each input's buffer at its block, the tables in the output buffers. -/
def dat (c : Dev nD) : Dat τ (Elt F) Unit ℕ (UR sig nD τ) ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => table3 (blk V c 0 t) (blk V c 1 t) (blk V c 4 t)
    | ⟨8, _⟩ => table2 (blk V c 2 t) (blk V c 5 t)
    | ⟨9, _⟩ => table1 (blk V c 3 t) (blk V c 6 t)
  Φ _ := Pipeline.scopedRest spec0 c
  q _ := fullShare
  owed _ := 0

/-- The arrays are the launch's own. -/
theorem dat_A (c : Dev nD) (w : Fin cfg0.W) : (dat V c).A w = V c (Proc.devRef .tc (Pipeline.arrRef spec0 w)) := by
  dsimp only [dat]

/-- The cubic table's buffer after the body. -/
theorem after_7 (c : Dev nD) (t : Fin cfg0.N) : (dat V c).after 7 t = table3 (blk V c 0 t) (blk V c 1 t) (blk V c 4 t) := by
  dsimp only [dat]
/-- The quadratic table's buffer after the body. -/
theorem after_8 (c : Dev nD) (t : Fin cfg0.N) : (dat V c).after 8 t = table2 (blk V c 2 t) (blk V c 5 t) := by
  dsimp only [dat]
/-- The linear table's buffer after the body. -/
theorem after_9 (c : Dev nD) (t : Fin cfg0.N) : (dat V c).after 9 t = table1 (blk V c 3 t) (blk V c 6 t) := by
  dsimp only [dat]

/-! An input's buffer holds its block after the body, and held it before. -/

/-- The first input's buffer holds its block after the body. -/
theorem after_0 (c : Dev nD) (t : Fin cfg0.N) : (dat V c).after 0 t = blk V c 0 t := by dsimp only [dat]
/-- The second input's buffer holds its block after the body. -/
theorem after_1 (c : Dev nD) (t : Fin cfg0.N) : (dat V c).after 1 t = blk V c 1 t := by dsimp only [dat]
/-- The third input's buffer holds its block after the body. -/
theorem after_2 (c : Dev nD) (t : Fin cfg0.N) : (dat V c).after 2 t = blk V c 2 t := by dsimp only [dat]
/-- The fourth input's buffer holds its block after the body. -/
theorem after_3 (c : Dev nD) (t : Fin cfg0.N) : (dat V c).after 3 t = blk V c 3 t := by dsimp only [dat]
/-- The fifth input's buffer holds its block after the body. -/
theorem after_4 (c : Dev nD) (t : Fin cfg0.N) : (dat V c).after 4 t = blk V c 4 t := by dsimp only [dat]
/-- The sixth input's buffer holds its block after the body. -/
theorem after_5 (c : Dev nD) (t : Fin cfg0.N) : (dat V c).after 5 t = blk V c 5 t := by dsimp only [dat]
/-- The seventh input's buffer holds its block after the body. -/
theorem after_6 (c : Dev nD) (t : Fin cfg0.N) : (dat V c).after 6 t = blk V c 6 t := by dsimp only [dat]
/-- The first input's buffer holds its block before the body. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
/-- The second input's buffer holds its block before the body. -/
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
/-- The third input's buffer holds its block before the body. -/
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
/-- The fourth input's buffer holds its block before the body. -/
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
/-- The fifth input's buffer holds its block before the body. -/
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
/-- The sixth input's buffer holds its block before the body. -/
theorem before_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
/-- The seventh input's buffer holds its block before the body. -/
theorem before_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: its inputs' buffers hold their blocks, the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c Set.univ _ _ _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body at `t`. -/
theorem row (t : Fin cfg0.N) : defs₀ (F := F) .tc cfg0.body (cfg0.bodyArgs t (cfg0.slots t)) = bodyAt0 t := by
  unfold defs₀; rw [Defs.onTc_tc]

/-- The body meets the pipeline's obligation at every point. -/
theorem obligation (c : Dev nD) : BodyObligation (dat V c) (defs₀ (F := F)) Variants.none () Set.univ := fun t => by
  rw [bigSep_W0, bigSep_W0, row]
  exact triple_restated (body_at V c t) rfl .rfl fun _ => .rfl

end Cert.KernelIdeal.Tables

end
-- ==== Proof.Ideal.Atoms.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The second kernel call: one grid point computes eight atoms, one after the other, by the same program. -/

@[expose] public section

set_option maxRecDepth 16384

noncomputable section

namespace Cert.KernelIdeal.Atoms

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One atom's value -/

/-- Row `k` of an atom's features, as a one-row matrix. -/
def featRow (k : ℕ) (xa : FVec F S16x96 .f32) (h : S16x96.Slices ![k, 0] S1x96) : FVec F S1x96 .f32 :=
  shapeCast S1x96 (shapeCast S96 (extractStridedSlice S1x96 ![k, 0] xa h) shapeCasts_S1x96_S96) shapeCasts_S96_S1x96

/-- One step of the accumulation: the first `t` rows gain the table's rows times feature row `k`, the other `r` rows stay. -/
def grow (t r k : ℕ) (acc : FVec F S136x96 .f32) (xa : FVec F S16x96 .f32) (u : Vec F ⟨4, ![1, 1, t, 96]⟩ .f32)
    (h0 : S136x96.Slices ![0, 0] ⟨2, ![t, 96]⟩) (h1 : Shape.ShapeCasts ⟨4, ![1, 1, t, 96]⟩ ⟨2, ![t, 96]⟩)
    (h2 : S16x96.Slices ![k, 0] S1x96) (h3 : S1x96.Broadcasts ⟨2, ![t, 96]⟩)
    (h4 : S136x96.Slices ![t, 0] ⟨2, ![r, 96]⟩) (h5 : Shape.Concatenates [⟨2, ![t, 96]⟩, ⟨2, ![r, 96]⟩] S136x96 0) :
    FVec F S136x96 .f32 :=
  concatenate S136x96 0
    [⟨⟨2, ![t, 96]⟩, addf (extractStridedSlice ⟨2, ![t, 96]⟩ ![0, 0] acc h0)
      (mulf (shapeCast ⟨2, ![t, 96]⟩ u h1) (broadcastTo ⟨2, ![t, 96]⟩ (featRow k xa h2) h3))⟩,
     ⟨⟨2, ![r, 96]⟩, extractStridedSlice ⟨2, ![r, 96]⟩ ![t, 0] acc h4⟩] h5

/-- The accumulator after the sixteen steps. -/
def accum (acc : FVec F S136x96 .f32) (xa : FVec F S16x96 .f32)
    (u0 : Vec F S1x1x8x96 .f32)    (u1 : Vec F S1x1x8x96 .f32)    (u2 : Vec F S1x1x8x96 .f32)    (u3 : Vec F S1x1x16x96 .f32)
    (u4 : Vec F S1x1x16x96 .f32)    (u5 : Vec F S1x1x24x96 .f32)    (u6 : Vec F S1x1x32x96 .f32)    (u7 : Vec F S1x1x40x96 .f32)
    (u8 : Vec F S1x1x48x96 .f32)    (u9 : Vec F S1x1x56x96 .f32)    (u10 : Vec F S1x1x72x96 .f32)    (u11 : Vec F S1x1x80x96 .f32)
    (u12 : Vec F S1x1x96x96 .f32)    (u13 : Vec F S1x1x112x96 .f32)    (u14 : Vec F S1x1x120x96 .f32)    (u15 : Vec F S1x1x136x96 .f32)
    : FVec F S136x96 .f32 :=
  have a0 := grow 8 128 0 acc xa u0 slices_S136x96_o0_0_S8x96 shapeCasts_S1x1x8x96_S8x96 slices_S16x96_o0_0_S1x96
    broadcasts_S1x96_S8x96 slices_S136x96_o8_0_S128x96 concatenates_S8x96_S128x96_S136x96_d0
  have a1 := grow 8 128 1 a0 xa u1 slices_S136x96_o0_0_S8x96 shapeCasts_S1x1x8x96_S8x96 slices_S16x96_o1_0_S1x96
    broadcasts_S1x96_S8x96 slices_S136x96_o8_0_S128x96 concatenates_S8x96_S128x96_S136x96_d0
  have a2 := grow 8 128 2 a1 xa u2 slices_S136x96_o0_0_S8x96 shapeCasts_S1x1x8x96_S8x96 slices_S16x96_o2_0_S1x96
    broadcasts_S1x96_S8x96 slices_S136x96_o8_0_S128x96 concatenates_S8x96_S128x96_S136x96_d0
  have a3 := grow 16 120 3 a2 xa u3 slices_S136x96_o0_0_S16x96 shapeCasts_S1x1x16x96_S16x96 slices_S16x96_o3_0_S1x96
    broadcasts_S1x96_S16x96 slices_S136x96_o16_0_S120x96 concatenates_S16x96_S120x96_S136x96_d0
  have a4 := grow 16 120 4 a3 xa u4 slices_S136x96_o0_0_S16x96 shapeCasts_S1x1x16x96_S16x96 slices_S16x96_o4_0_S1x96
    broadcasts_S1x96_S16x96 slices_S136x96_o16_0_S120x96 concatenates_S16x96_S120x96_S136x96_d0
  have a5 := grow 24 112 5 a4 xa u5 slices_S136x96_o0_0_S24x96 shapeCasts_S1x1x24x96_S24x96 slices_S16x96_o5_0_S1x96
    broadcasts_S1x96_S24x96 slices_S136x96_o24_0_S112x96 concatenates_S24x96_S112x96_S136x96_d0
  have a6 := grow 32 104 6 a5 xa u6 slices_S136x96_o0_0_S32x96 shapeCasts_S1x1x32x96_S32x96 slices_S16x96_o6_0_S1x96
    broadcasts_S1x96_S32x96 slices_S136x96_o32_0_S104x96 concatenates_S32x96_S104x96_S136x96_d0
  have a7 := grow 40 96 7 a6 xa u7 slices_S136x96_o0_0_S40x96 shapeCasts_S1x1x40x96_S40x96 slices_S16x96_o7_0_S1x96
    broadcasts_S1x96_S40x96 slices_S136x96_o40_0_S96x96 concatenates_S40x96_S96x96_S136x96_d0
  have a8 := grow 48 88 8 a7 xa u8 slices_S136x96_o0_0_S48x96 shapeCasts_S1x1x48x96_S48x96 slices_S16x96_o8_0_S1x96
    broadcasts_S1x96_S48x96 slices_S136x96_o48_0_S88x96 concatenates_S48x96_S88x96_S136x96_d0
  have a9 := grow 56 80 9 a8 xa u9 slices_S136x96_o0_0_S56x96 shapeCasts_S1x1x56x96_S56x96 slices_S16x96_o9_0_S1x96
    broadcasts_S1x96_S56x96 slices_S136x96_o56_0_S80x96 concatenates_S56x96_S80x96_S136x96_d0
  have a10 := grow 72 64 10 a9 xa u10 slices_S136x96_o0_0_S72x96 shapeCasts_S1x1x72x96_S72x96 slices_S16x96_o10_0_S1x96
    broadcasts_S1x96_S72x96 slices_S136x96_o72_0_S64x96 concatenates_S72x96_S64x96_S136x96_d0
  have a11 := grow 80 56 11 a10 xa u11 slices_S136x96_o0_0_S80x96 shapeCasts_S1x1x80x96_S80x96 slices_S16x96_o11_0_S1x96
    broadcasts_S1x96_S80x96 slices_S136x96_o80_0_S56x96 concatenates_S80x96_S56x96_S136x96_d0
  have a12 := grow 96 40 12 a11 xa u12 slices_S136x96_o0_0_S96x96 shapeCasts_S1x1x96x96_S96x96 slices_S16x96_o12_0_S1x96
    broadcasts_S1x96_S96x96 slices_S136x96_o96_0_S40x96 concatenates_S96x96_S40x96_S136x96_d0
  have a13 := grow 112 24 13 a12 xa u13 slices_S136x96_o0_0_S112x96 shapeCasts_S1x1x112x96_S112x96 slices_S16x96_o13_0_S1x96
    broadcasts_S1x96_S112x96 slices_S136x96_o112_0_S24x96 concatenates_S112x96_S24x96_S136x96_d0
  have a14 := grow 120 16 14 a13 xa u14 slices_S136x96_o0_0_S120x96 shapeCasts_S1x1x120x96_S120x96 slices_S16x96_o14_0_S1x96
    broadcasts_S1x96_S120x96 slices_S136x96_o120_0_S16x96 concatenates_S120x96_S16x96_S136x96_d0
  addf a14 (mulf (shapeCast S136x96 u15 shapeCasts_S1x1x136x96_S136x96)
    (broadcastTo S136x96 (featRow 15 xa slices_S16x96_o15_0_S1x96) broadcasts_S1x96_S136x96))

/-- The result's row from the accumulator, the two selections of the features and the linear term. -/
def finish (acc p q : FVec F S136x96 .f32) (xa : FVec F S16x96 .f32) (u : Vec F S1x16x96 .f32) : FVec F S1x96 .f32 :=
  shapeCast S1x96 (shapeCast S96 (matmul dot_S1x152_S152x96_S1x96_1_0_0_1_n_n none
    (broadcast S1x152 (Scalar.ofBits .f32 0x3F800000#32))
    (concatenate S152x96 0 [⟨S136x96, mulf (mulf acc p) q⟩,
      ⟨S16x96, mulf (shapeCast S16x96 u shapeCasts_S1x16x96_S16x96) xa⟩] concatenates_S136x96_S16x96_S152x96_d0)
    (constant S1x96 .f32 0x00000000#32)) shapeCasts_S1x96_S96) shapeCasts_S96_S1x96

/-- The features selected by a table of rows. -/
def select (tab : Vec F S136x16 .f32) (xa : FVec F S16x96 .f32) : FVec F S136x96 .f32 :=
  matmul dot_S136x16_S16x96_S136x96_1_0_0_1_n_n none tab xa (constant S136x96 .f32 0x00000000#32)

/-- The row an atom leaves, from the blocks it reads. -/
def rowOf (x : Vec F S1x16x96 .f32) (pi pj : Vec F S136x16 .f32) (b2 : Vec F S1x136x96 .f32)
    (u0 : Vec F S1x1x8x96 .f32)    (u1 : Vec F S1x1x8x96 .f32)    (u2 : Vec F S1x1x8x96 .f32)    (u3 : Vec F S1x1x16x96 .f32)
    (u4 : Vec F S1x1x16x96 .f32)    (u5 : Vec F S1x1x24x96 .f32)    (u6 : Vec F S1x1x32x96 .f32)    (u7 : Vec F S1x1x40x96 .f32)
    (u8 : Vec F S1x1x48x96 .f32)    (u9 : Vec F S1x1x56x96 .f32)    (u10 : Vec F S1x1x72x96 .f32)    (u11 : Vec F S1x1x80x96 .f32)
    (u12 : Vec F S1x1x96x96 .f32)    (u13 : Vec F S1x1x112x96 .f32)    (u14 : Vec F S1x1x120x96 .f32)    (u15 : Vec F S1x1x136x96 .f32)
    (b1 : Vec F S1x16x96 .f32) : FVec F S1x96 .f32 :=
  have xa := shapeCast S16x96 x shapeCasts_S1x16x96_S16x96
  finish (accum (shapeCast S136x96 b2 shapeCasts_S1x136x96_S136x96) xa u0 u1 u2 u3 u4 u5 u6 u7 u8 u9 u10 u11 u12 u13 u14 u15)
    (select pi xa) (select pj xa) xa b1

/-! ## One atom's program -/

/-- The type of atom `a` lies inside its block. -/
theorem word_fits (a : Fin 8) : ∀ i, (![a.val, 0] : Fin 2 → ℕ) i + S1x1.size i ≤ S8x1.size i := by revert a; decide
/-- The features of atom `a` lie inside their block. -/
theorem feat_fits (a : Fin 8) : ∀ i, (![a.val, 0, 0] : Fin 3 → ℕ) i + S1x16x96.size i ≤ S8x16x96.size i := by revert a; decide
/-- The result row of atom `a` lies inside its block. -/
theorem out_fits (a : Fin 8) : ∀ i, (![a.val, 0] : Fin 2 → ℕ) i + S1x96.size i ≤ S8x96.size i := by revert a; decide

/-- The word that names atom `a`'s element. -/
abbrev wordRect (a : Fin 8) : Rect S8x1 := Rect.unit (s := S8x1) ![a.val, 0] S1x1.size (word_fits a)
/-- Atom `a`'s features. -/
abbrev featRect (a : Fin 8) : Rect S8x16x96 := Rect.unit (s := S8x16x96) ![a.val, 0, 0] S1x16x96.size (feat_fits a)
/-- Atom `a`'s row of the result. -/
abbrev outRect (a : Fin 8) : Rect S8x96 := Rect.unit (s := S8x96) ![a.val, 0] S1x96.size (out_fits a)
/-- All of a selection table. -/
abbrev selRect : Rect S136x16 := Rect.unit (s := S136x16) ![0, 0] S136x16.size inb_S136x16_S136x16_0_0

/-- The program of atom `a`. -/
def atom (a : Fin 8)
    (arg1 : Memref sig .tc .vmem S8x1 .i32)
    (arg2 : Memref sig .tc .vmem S8x16x96 .f32)
    (arg3 : Memref sig .tc .vmem S3x16x136x96 .f32)
    (arg4 : Memref sig .tc .vmem S3x136x96 .f32)
    (arg5 : Memref sig .tc .vmem S3x16x96 .f32)
    (arg6 : Memref sig .tc .vmem S136x16 .f32)
    (arg7 : Memref sig .tc .vmem S136x16 .f32)
    (arg8 : Memref sig .tc .vmem S8x96 .f32) :
    Prog (TpuEff nD τ sig (Elt F) Λ₀ .tc) PUnit := do
  let v1 : Vec F S1x1 .i32 ← Prog.lift (.load arg1 (wordRect a).toLoadRect (View.loadsAt_vmem h_S1x1))
  have e : BitVec 32 := extractAt ![0, 0] v1 inpos_S1x1_p0_0
  have h : k1_chk1 e := (← Prog.lift (TpuEff.assume (k1_chk1 e) (k1_chk1.dec e))).down
  let x : Vec F S1x16x96 .f32 ← Prog.lift (.load arg2 (featRect a).toLoadRect (View.loadsAt_vmem h_S1x16x96))
  let pi : Vec F S136x16 .f32 ← Prog.lift (.load arg6 selRect.toLoadRect (View.loadsAt_vmem h_S136x16))
  let pj : Vec F S136x16 .f32 ← Prog.lift (.load arg7 selRect.toLoadRect (View.loadsAt_vmem h_S136x16))
  let b2 : Vec F S1x136x96 .f32 ← Prog.lift (.load arg4 (Rect.unit (s := S3x136x96) (k1_off1 e) S1x136x96.size (k1_off1_inb e h)).toLoadRect (View.loadsAt_vmem h_S1x136x96))
  let u0 : Vec F S1x1x8x96 .f32 ← Prog.lift (.load arg3 (Rect.unit (s := S3x16x136x96) (k1_off2 e) S1x1x8x96.size (k1_off2_inb e h)).toLoadRect (View.loadsAt_vmem h_S1x1x8x96))
  let u1 : Vec F S1x1x8x96 .f32 ← Prog.lift (.load arg3 (Rect.unit (s := S3x16x136x96) (k1_off3 e) S1x1x8x96.size (k1_off3_inb e h)).toLoadRect (View.loadsAt_vmem h_S1x1x8x96))
  let u2 : Vec F S1x1x8x96 .f32 ← Prog.lift (.load arg3 (Rect.unit (s := S3x16x136x96) (k1_off4 e) S1x1x8x96.size (k1_off4_inb e h)).toLoadRect (View.loadsAt_vmem h_S1x1x8x96))
  let u3 : Vec F S1x1x16x96 .f32 ← Prog.lift (.load arg3 (Rect.unit (s := S3x16x136x96) (k1_off5 e) S1x1x16x96.size (k1_off5_inb e h)).toLoadRect (View.loadsAt_vmem h_S1x1x16x96))
  let u4 : Vec F S1x1x16x96 .f32 ← Prog.lift (.load arg3 (Rect.unit (s := S3x16x136x96) (k1_off6 e) S1x1x16x96.size (k1_off6_inb e h)).toLoadRect (View.loadsAt_vmem h_S1x1x16x96))
  let u5 : Vec F S1x1x24x96 .f32 ← Prog.lift (.load arg3 (Rect.unit (s := S3x16x136x96) (k1_off7 e) S1x1x24x96.size (k1_off7_inb e h)).toLoadRect (View.loadsAt_vmem h_S1x1x24x96))
  let u6 : Vec F S1x1x32x96 .f32 ← Prog.lift (.load arg3 (Rect.unit (s := S3x16x136x96) (k1_off8 e) S1x1x32x96.size (k1_off8_inb e h)).toLoadRect (View.loadsAt_vmem h_S1x1x32x96))
  let u7 : Vec F S1x1x40x96 .f32 ← Prog.lift (.load arg3 (Rect.unit (s := S3x16x136x96) (k1_off9 e) S1x1x40x96.size (k1_off9_inb e h)).toLoadRect (View.loadsAt_vmem h_S1x1x40x96))
  let u8 : Vec F S1x1x48x96 .f32 ← Prog.lift (.load arg3 (Rect.unit (s := S3x16x136x96) (k1_off10 e) S1x1x48x96.size (k1_off10_inb e h)).toLoadRect (View.loadsAt_vmem h_S1x1x48x96))
  let u9 : Vec F S1x1x56x96 .f32 ← Prog.lift (.load arg3 (Rect.unit (s := S3x16x136x96) (k1_off11 e) S1x1x56x96.size (k1_off11_inb e h)).toLoadRect (View.loadsAt_vmem h_S1x1x56x96))
  let u10 : Vec F S1x1x72x96 .f32 ← Prog.lift (.load arg3 (Rect.unit (s := S3x16x136x96) (k1_off12 e) S1x1x72x96.size (k1_off12_inb e h)).toLoadRect (View.loadsAt_vmem h_S1x1x72x96))
  let u11 : Vec F S1x1x80x96 .f32 ← Prog.lift (.load arg3 (Rect.unit (s := S3x16x136x96) (k1_off13 e) S1x1x80x96.size (k1_off13_inb e h)).toLoadRect (View.loadsAt_vmem h_S1x1x80x96))
  let u12 : Vec F S1x1x96x96 .f32 ← Prog.lift (.load arg3 (Rect.unit (s := S3x16x136x96) (k1_off14 e) S1x1x96x96.size (k1_off14_inb e h)).toLoadRect (View.loadsAt_vmem h_S1x1x96x96))
  let u13 : Vec F S1x1x112x96 .f32 ← Prog.lift (.load arg3 (Rect.unit (s := S3x16x136x96) (k1_off15 e) S1x1x112x96.size (k1_off15_inb e h)).toLoadRect (View.loadsAt_vmem h_S1x1x112x96))
  let u14 : Vec F S1x1x120x96 .f32 ← Prog.lift (.load arg3 (Rect.unit (s := S3x16x136x96) (k1_off16 e) S1x1x120x96.size (k1_off16_inb e h)).toLoadRect (View.loadsAt_vmem h_S1x1x120x96))
  let u15 : Vec F S1x1x136x96 .f32 ← Prog.lift (.load arg3 (Rect.unit (s := S3x16x136x96) (k1_off17 e) S1x1x136x96.size (k1_off17_inb e h)).toLoadRect (View.loadsAt_vmem h_S1x1x136x96))
  let b1 : Vec F S1x16x96 .f32 ← Prog.lift (.load arg5 (Rect.unit (s := S3x16x96) (k1_off18 e) S1x16x96.size (k1_off18_inb e h)).toLoadRect (View.loadsAt_vmem h_S1x16x96))
  let _ : Vec F S1x96 .f32 ← Prog.lift (.load arg8 (outRect a).toLoadRect (View.loadsAt_vmem h_S1x96))
  Prog.lift (.store arg8 (outRect a) (rowOf x pi pj b2 u0 u1 u2 u3 u4 u5 u6 u7 u8 u9 u10 u11 u12 u13 u14 u15 b1) Finset.univ (View.stores_vmem_bits_univ h_S1x96 rfl) (.inl rfl))

set_option maxRecDepth 65536 in
set_option maxHeartbeats 400000 in
/-- The body is the program of the atoms 0 to 7 in turn. -/
theorem body_eq (i : grid1.Coords)
    (arg1 : Memref sig .tc .vmem S8x1 .i32) (harg1 : arg1.IsWhole)
    (arg2 : Memref sig .tc .vmem S8x16x96 .f32) (harg2 : arg2.IsWhole)
    (arg3 : Memref sig .tc .vmem S3x16x136x96 .f32) (harg3 : arg3.IsWhole)
    (arg4 : Memref sig .tc .vmem S3x136x96 .f32) (harg4 : arg4.IsWhole)
    (arg5 : Memref sig .tc .vmem S3x16x96 .f32) (harg5 : arg5.IsWhole)
    (arg6 : Memref sig .tc .vmem S136x16 .f32) (harg6 : arg6.IsWhole)
    (arg7 : Memref sig .tc .vmem S136x16 .f32) (harg7 : arg7.IsWhole)
    (arg8 : Memref sig .tc .vmem S8x96 .f32) (harg8 : arg8.IsWhole) :
    cc1__main_body (F := F) i arg1 harg1 arg2 harg2 arg3 harg3 arg4 harg4 arg5 harg5 arg6 harg6 arg7 harg7 arg8 harg8 = (do
      atom 0 arg1 arg2 arg3 arg4 arg5 arg6 arg7 arg8
      atom 1 arg1 arg2 arg3 arg4 arg5 arg6 arg7 arg8
      atom 2 arg1 arg2 arg3 arg4 arg5 arg6 arg7 arg8
      atom 3 arg1 arg2 arg3 arg4 arg5 arg6 arg7 arg8
      atom 4 arg1 arg2 arg3 arg4 arg5 arg6 arg7 arg8
      atom 5 arg1 arg2 arg3 arg4 arg5 arg6 arg7 arg8
      atom 6 arg1 arg2 arg3 arg4 arg5 arg6 arg7 arg8
      atom 7 arg1 arg2 arg3 arg4 arg5 arg6 arg7 arg8
      pure ⟨⟩) := rfl

/-! ## The body -/

/-- The word that names atom `a`'s element, read off the block of words. -/
def word (w : Vec F S8x1 .i32) (a : Fin 8) : BitVec 32 :=
  extractAt ![0, 0] (View.ld w (wordRect a)) inpos_S1x1_p0_0

/-- The row that atom `a` leaves, from the blocks of the inputs; its element's word is in range by `h`. -/
def outRow (w : Vec F S8x1 .i32) (x : Vec F S8x16x96 .f32) (t3 : Vec F S3x16x136x96 .f32) (t2 : Vec F S3x136x96 .f32)
    (t1 : Vec F S3x16x96 .f32) (pi pj : Vec F S136x16 .f32) (a : Fin 8) (h : k1_chk1 (word w a)) : Vec F S1x96 .f32 :=
  rowOf (View.ld x (featRect a)) (View.ld pi selRect) (View.ld pj selRect)
    (View.ld t2 (Rect.unit (s := S3x136x96) (k1_off1 (word w a)) S1x136x96.size (k1_off1_inb _ h)))
    (View.ld t3 (Rect.unit (s := S3x16x136x96) (k1_off2 (word w a)) S1x1x8x96.size (k1_off2_inb _ h)))
    (View.ld t3 (Rect.unit (s := S3x16x136x96) (k1_off3 (word w a)) S1x1x8x96.size (k1_off3_inb _ h)))
    (View.ld t3 (Rect.unit (s := S3x16x136x96) (k1_off4 (word w a)) S1x1x8x96.size (k1_off4_inb _ h)))
    (View.ld t3 (Rect.unit (s := S3x16x136x96) (k1_off5 (word w a)) S1x1x16x96.size (k1_off5_inb _ h)))
    (View.ld t3 (Rect.unit (s := S3x16x136x96) (k1_off6 (word w a)) S1x1x16x96.size (k1_off6_inb _ h)))
    (View.ld t3 (Rect.unit (s := S3x16x136x96) (k1_off7 (word w a)) S1x1x24x96.size (k1_off7_inb _ h)))
    (View.ld t3 (Rect.unit (s := S3x16x136x96) (k1_off8 (word w a)) S1x1x32x96.size (k1_off8_inb _ h)))
    (View.ld t3 (Rect.unit (s := S3x16x136x96) (k1_off9 (word w a)) S1x1x40x96.size (k1_off9_inb _ h)))
    (View.ld t3 (Rect.unit (s := S3x16x136x96) (k1_off10 (word w a)) S1x1x48x96.size (k1_off10_inb _ h)))
    (View.ld t3 (Rect.unit (s := S3x16x136x96) (k1_off11 (word w a)) S1x1x56x96.size (k1_off11_inb _ h)))
    (View.ld t3 (Rect.unit (s := S3x16x136x96) (k1_off12 (word w a)) S1x1x72x96.size (k1_off12_inb _ h)))
    (View.ld t3 (Rect.unit (s := S3x16x136x96) (k1_off13 (word w a)) S1x1x80x96.size (k1_off13_inb _ h)))
    (View.ld t3 (Rect.unit (s := S3x16x136x96) (k1_off14 (word w a)) S1x1x96x96.size (k1_off14_inb _ h)))
    (View.ld t3 (Rect.unit (s := S3x16x136x96) (k1_off15 (word w a)) S1x1x112x96.size (k1_off15_inb _ h)))
    (View.ld t3 (Rect.unit (s := S3x16x136x96) (k1_off16 (word w a)) S1x1x120x96.size (k1_off16_inb _ h)))
    (View.ld t3 (Rect.unit (s := S3x16x136x96) (k1_off17 (word w a)) S1x1x136x96.size (k1_off17_inb _ h)))
    (View.ld t1 (Rect.unit (s := S3x16x96) (k1_off18 (word w a)) S1x16x96.size (k1_off18_inb _ h)))

/-- The rows as pieces of the output buffer, the last stored first. -/
def rowPieces (f : Fin 8 → Vec F S1x96 .f32) : List (View.Piece (Elt F) S8x96 .f32) :=
  [⟨outRect 7, f 7⟩, ⟨outRect 6, f 6⟩, ⟨outRect 5, f 5⟩, ⟨outRect 4, f 4⟩, ⟨outRect 3, f 3⟩, ⟨outRect 2, f 2⟩, ⟨outRect 1, f 1⟩, ⟨outRect 0, f 0⟩]

/-- The rows cover the output buffer. -/
theorem rows_cover (f : Fin 8 → Vec F S1x96 .f32) (y : S8x96.Idx) : ∃ pc ∈ rowPieces f, y ∈ pc.1.set :=
  View.cover_of_tiled (rowPieces f) S1x96.size (by rfl) y

/-- The output buffer after the body. -/
def outBlock (w : Vec F S8x1 .i32) (x : Vec F S8x16x96 .f32) (t3 : Vec F S3x16x136x96 .f32) (t2 : Vec F S3x136x96 .f32)
    (t1 : Vec F S3x16x96 .f32) (pi pj : Vec F S136x16 .f32) (h : ∀ a, k1_chk1 (word w a)) : Vec F S8x96 .f32 :=
  View.canon (rowPieces fun a => outRow w x t3 t2 t1 pi pj a (h a))

set_option maxHeartbeats 1000000 in
/-- The program of atom `a` leaves the inputs as they were and writes its row of the output buffer. -/
theorem atom_run (c : Dev nD) (E : Set ℕ) (a : Fin 8)
    (arg1 : Memref sig .tc .vmem S8x1 .i32)
    (arg2 : Memref sig .tc .vmem S8x16x96 .f32)
    (arg3 : Memref sig .tc .vmem S3x16x136x96 .f32)
    (arg4 : Memref sig .tc .vmem S3x136x96 .f32)
    (arg5 : Memref sig .tc .vmem S3x16x96 .f32)
    (arg6 : Memref sig .tc .vmem S136x16 .f32)
    (arg7 : Memref sig .tc .vmem S136x16 .f32)
    (arg8 : Memref sig .tc .vmem S8x96 .f32)
    (w : Vec F S8x1 .i32) (x : Vec F S8x16x96 .f32) (t3 : Vec F S3x16x136x96 .f32) (t2 : Vec F S3x136x96 .f32) (t1 : Vec F S3x16x96 .f32) (pi : Vec F S136x16 .f32) (pj : Vec F S136x16 .f32)
    (h : k1_chk1 (word w a)) (f : arg8.view.ty.Contents (Elt F)) (K : PUnit → sProp 𝕄) :
    iprop(owns (c : Thread nD τ) arg1 fullShare w
        ∗ owns (c : Thread nD τ) arg2 fullShare x
        ∗ owns (c : Thread nD τ) arg3 fullShare t3
        ∗ owns (c : Thread nD τ) arg4 fullShare t2
        ∗ owns (c : Thread nD τ) arg5 fullShare t1
        ∗ owns (c : Thread nD τ) arg6 fullShare pi
        ∗ owns (c : Thread nD τ) arg7 fullShare pj
        ∗ (arg8.view.loc (c : Thread nD τ) ↦[arg8.view.set]{fullShare} f)
        ∗ (iprop(owns (c : Thread nD τ) arg1 fullShare w
          ∗ owns (c : Thread nD τ) arg2 fullShare x
          ∗ owns (c : Thread nD τ) arg3 fullShare t3
          ∗ owns (c : Thread nD τ) arg4 fullShare t2
          ∗ owns (c : Thread nD τ) arg5 fullShare t1
          ∗ owns (c : Thread nD τ) arg6 fullShare pi
          ∗ owns (c : Thread nD τ) arg7 fullShare pj
          ∗ (arg8.view.loc (c : Thread nD τ) ↦[arg8.view.set]{fullShare} (arg8.view.writes (Elt F) f [⟨outRect a, outRow w x t3 t2 t1 pi pj a h⟩]))) -∗ K ⟨⟩))
      ⊢ wp frame (wpE (defs₀ (F := F)) Variants.none c none) E (atom a arg1 arg2 arg3 arg4 arg5 arg6 arg7 arg8) K := by
  unfold atom owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, H8, Hk⟩
  subst hf1 hf2 hf3 hf4 hf5 hf6 hf7
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexact H8

/-- An owned buffer holds some contents. -/
theorem owns_raw {s : Shape} (c : Dev nD) (m : Memref sig .tc .vmem s .f32) (X : Vec F s .f32) :
    owns (c : Thread nD τ) m fullShare X ⊢ (iprop(∃ f, m.view.loc (c : Thread nD τ) ↦[m.view.set]{fullShare} f) : sProp 𝕄) := by
  unfold owns
  iintro ⟨%f, -, H⟩
  iexists f
  iexact H

set_option maxHeartbeats 1000000 in
/-- The eight atoms in turn: their rows are written on top of what the output buffer held. -/
theorem atoms_run (c : Dev nD) (E : Set ℕ) (i : grid1.Coords)
    (arg1 : Memref sig .tc .vmem S8x1 .i32) (harg1 : arg1.IsWhole)
    (arg2 : Memref sig .tc .vmem S8x16x96 .f32) (harg2 : arg2.IsWhole)
    (arg3 : Memref sig .tc .vmem S3x16x136x96 .f32) (harg3 : arg3.IsWhole)
    (arg4 : Memref sig .tc .vmem S3x136x96 .f32) (harg4 : arg4.IsWhole)
    (arg5 : Memref sig .tc .vmem S3x16x96 .f32) (harg5 : arg5.IsWhole)
    (arg6 : Memref sig .tc .vmem S136x16 .f32) (harg6 : arg6.IsWhole)
    (arg7 : Memref sig .tc .vmem S136x16 .f32) (harg7 : arg7.IsWhole)
    (arg8 : Memref sig .tc .vmem S8x96 .f32) (harg8 : arg8.IsWhole)
    (w : Vec F S8x1 .i32) (x : Vec F S8x16x96 .f32) (t3 : Vec F S3x16x136x96 .f32) (t2 : Vec F S3x136x96 .f32) (t1 : Vec F S3x16x96 .f32) (pi : Vec F S136x16 .f32) (pj : Vec F S136x16 .f32)
    (h : ∀ a, k1_chk1 (word w a)) (f : arg8.view.ty.Contents (Elt F)) (K : PUnit → sProp 𝕄) :
    iprop(owns (c : Thread nD τ) arg1 fullShare w
        ∗ owns (c : Thread nD τ) arg2 fullShare x
        ∗ owns (c : Thread nD τ) arg3 fullShare t3
        ∗ owns (c : Thread nD τ) arg4 fullShare t2
        ∗ owns (c : Thread nD τ) arg5 fullShare t1
        ∗ owns (c : Thread nD τ) arg6 fullShare pi
        ∗ owns (c : Thread nD τ) arg7 fullShare pj
        ∗ (arg8.view.loc (c : Thread nD τ) ↦[arg8.view.set]{fullShare} f)
        ∗ (iprop(owns (c : Thread nD τ) arg1 fullShare w
          ∗ owns (c : Thread nD τ) arg2 fullShare x
          ∗ owns (c : Thread nD τ) arg3 fullShare t3
          ∗ owns (c : Thread nD τ) arg4 fullShare t2
          ∗ owns (c : Thread nD τ) arg5 fullShare t1
          ∗ owns (c : Thread nD τ) arg6 fullShare pi
          ∗ owns (c : Thread nD τ) arg7 fullShare pj
          ∗ (arg8.view.loc (c : Thread nD τ) ↦[arg8.view.set]{fullShare} (arg8.view.writes (Elt F) f (rowPieces fun a => outRow w x t3 t2 t1 pi pj a (h a))))) -∗ K ⟨⟩))
      ⊢ wp frame (wpE (defs₀ (F := F)) Variants.none c none) E (cc1__main_body i arg1 harg1 arg2 harg2 arg3 harg3 arg4 harg4 arg5 harg5 arg6 harg6 arg7 harg7 arg8 harg8) K := by
  rw [body_eq]
  iintro ⟨H1, H2, H3, H4, H5, H6, H7, H8, Hk⟩
  rw [wp_bind]
  iapply (atom_run c E 0 arg1 arg2 arg3 arg4 arg5 arg6 arg7 arg8 w x t3 t2 t1 pi pj (h 0))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  rw [wp_bind]
  iapply (atom_run c E 1 arg1 arg2 arg3 arg4 arg5 arg6 arg7 arg8 w x t3 t2 t1 pi pj (h 1))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  rw [wp_bind]
  iapply (atom_run c E 2 arg1 arg2 arg3 arg4 arg5 arg6 arg7 arg8 w x t3 t2 t1 pi pj (h 2))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  rw [wp_bind]
  iapply (atom_run c E 3 arg1 arg2 arg3 arg4 arg5 arg6 arg7 arg8 w x t3 t2 t1 pi pj (h 3))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  rw [wp_bind]
  iapply (atom_run c E 4 arg1 arg2 arg3 arg4 arg5 arg6 arg7 arg8 w x t3 t2 t1 pi pj (h 4))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  rw [wp_bind]
  iapply (atom_run c E 5 arg1 arg2 arg3 arg4 arg5 arg6 arg7 arg8 w x t3 t2 t1 pi pj (h 5))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  rw [wp_bind]
  iapply (atom_run c E 6 arg1 arg2 arg3 arg4 arg5 arg6 arg7 arg8 w x t3 t2 t1 pi pj (h 6))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  rw [wp_bind]
  iapply (atom_run c E 7 arg1 arg2 arg3 arg4 arg5 arg6 arg7 arg8 w x t3 t2 t1 pi pj (h 7))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
/-- The body leaves the inputs as they were and the eight atoms' rows in the output buffer. -/
theorem body (c : Dev nD) (E : Set ℕ) (i : grid1.Coords)
    (arg1 : Memref sig .tc .vmem S8x1 .i32) (harg1 : arg1.IsWhole)
    (arg2 : Memref sig .tc .vmem S8x16x96 .f32) (harg2 : arg2.IsWhole)
    (arg3 : Memref sig .tc .vmem S3x16x136x96 .f32) (harg3 : arg3.IsWhole)
    (arg4 : Memref sig .tc .vmem S3x136x96 .f32) (harg4 : arg4.IsWhole)
    (arg5 : Memref sig .tc .vmem S3x16x96 .f32) (harg5 : arg5.IsWhole)
    (arg6 : Memref sig .tc .vmem S136x16 .f32) (harg6 : arg6.IsWhole)
    (arg7 : Memref sig .tc .vmem S136x16 .f32) (harg7 : arg7.IsWhole)
    (arg8 : Memref sig .tc .vmem S8x96 .f32) (harg8 : arg8.IsWhole)
    (w : Vec F S8x1 .i32) (x : Vec F S8x16x96 .f32) (t3 : Vec F S3x16x136x96 .f32) (t2 : Vec F S3x136x96 .f32) (t1 : Vec F S3x16x96 .f32) (pi : Vec F S136x16 .f32) (pj : Vec F S136x16 .f32)
    (h : ∀ a, k1_chk1 (word w a)) (K : PUnit → sProp 𝕄) :
    iprop(owns (c : Thread nD τ) arg1 fullShare w
        ∗ owns (c : Thread nD τ) arg2 fullShare x
        ∗ owns (c : Thread nD τ) arg3 fullShare t3
        ∗ owns (c : Thread nD τ) arg4 fullShare t2
        ∗ owns (c : Thread nD τ) arg5 fullShare t1
        ∗ owns (c : Thread nD τ) arg6 fullShare pi
        ∗ owns (c : Thread nD τ) arg7 fullShare pj
        ∗ (∃ d, owns (c : Thread nD τ) arg8 fullShare d)
        ∗ (iprop(owns (c : Thread nD τ) arg1 fullShare w
          ∗ owns (c : Thread nD τ) arg2 fullShare x
          ∗ owns (c : Thread nD τ) arg3 fullShare t3
          ∗ owns (c : Thread nD τ) arg4 fullShare t2
          ∗ owns (c : Thread nD τ) arg5 fullShare t1
          ∗ owns (c : Thread nD τ) arg6 fullShare pi
          ∗ owns (c : Thread nD τ) arg7 fullShare pj
          ∗ owns (c : Thread nD τ) arg8 fullShare (outBlock w x t3 t2 t1 pi pj h)) -∗ K ⟨⟩))
      ⊢ wp frame (wpE (defs₀ (F := F)) Variants.none c none) E (cc1__main_body i arg1 harg1 arg2 harg2 arg3 harg3 arg4 harg4 arg5 harg5 arg6 harg6 arg7 harg7 arg8 harg8) K := by
  iintro ⟨H1, H2, H3, H4, H5, H6, H7, ⟨%d8, H8⟩, Hk⟩
  ihave H := (owns_raw c arg8 d8) $$ H8
  icases H with ⟨%f8, H8⟩
  iapply (atoms_run c E i arg1 harg1 arg2 harg2 arg3 harg3 arg4 harg4 arg5 harg5 arg6 harg6 arg7 harg7 arg8 harg8 w x t3 t2 t1 pi pj h f8)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns
  iexists _; isplitr
  swap; · iexact H8
  ipureintro
  exact View.read_writes_eq_canon _ _ _ (rows_cover _)

end Cert.KernelIdeal.Atoms

end
-- ==== Proof.Ideal.Rows.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Atoms
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The second kernel call: 256 grid points, eight atoms at each.  Its proof data are the blocks of its inputs at
the contents `V` the call finds, and the eight rows in the output's buffer. -/

@[expose] public section

set_option maxRecDepth 16384

noncomputable section

namespace Cert.KernelIdeal.Rows

open Cert.KernelIdeal.Gen Cert.KernelIdeal.Atoms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array at `V`. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Every word of the types that some point reads names an element. -/
def Fits (c : Dev nD) : Prop := ∀ (t : Fin cfg1.N) (a : Fin 8), k1_chk1 (word (blk V c 0 t) a)

variable (hV : ∀ c, Fits V c)

/-- The proof data: the arrays at `V`, each input's buffer at its block, the rows in the output's buffer. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlock (blk V c 0 t) (blk V c 1 t) (blk V c 2 t) (blk V c 3 t) (blk V c 4 t) (blk V c 5 t) (blk V c 6 t) (hV c t)
  Φ _ := Pipeline.scopedRest spec1 c
  q _ := fullShare
  owed _ := 0

/-- The arrays are the launch's own. -/
theorem dat_A (c : Dev nD) (w : Fin cfg1.W) : (dat V hV c).A w = V c (Proc.devRef .tc (Pipeline.arrRef spec1 w)) := by
  dsimp only [dat]

/-- The result's buffer holds the block of rows after the body. -/
theorem after_7 (c : Dev nD) (t : Fin cfg1.N) :
    (dat V hV c).after 7 t = outBlock (blk V c 0 t) (blk V c 1 t) (blk V c 2 t) (blk V c 3 t) (blk V c 4 t) (blk V c 5 t) (blk V c 6 t) (hV c t) := by
  dsimp only [dat]

/-! An input's buffer holds its block after the body, and held it before. -/

/-- The first input's buffer holds its block after the body. -/
theorem after_0 (c : Dev nD) (t : Fin cfg1.N) : (dat V hV c).after 0 t = blk V c 0 t := by dsimp only [dat]
/-- The second input's buffer holds its block after the body. -/
theorem after_1 (c : Dev nD) (t : Fin cfg1.N) : (dat V hV c).after 1 t = blk V c 1 t := by dsimp only [dat]
/-- The third input's buffer holds its block after the body. -/
theorem after_2 (c : Dev nD) (t : Fin cfg1.N) : (dat V hV c).after 2 t = blk V c 2 t := by dsimp only [dat]
/-- The fourth input's buffer holds its block after the body. -/
theorem after_3 (c : Dev nD) (t : Fin cfg1.N) : (dat V hV c).after 3 t = blk V c 3 t := by dsimp only [dat]
/-- The fifth input's buffer holds its block after the body. -/
theorem after_4 (c : Dev nD) (t : Fin cfg1.N) : (dat V hV c).after 4 t = blk V c 4 t := by dsimp only [dat]
/-- The sixth input's buffer holds its block after the body. -/
theorem after_5 (c : Dev nD) (t : Fin cfg1.N) : (dat V hV c).after 5 t = blk V c 5 t := by dsimp only [dat]
/-- The seventh input's buffer holds its block after the body. -/
theorem after_6 (c : Dev nD) (t : Fin cfg1.N) : (dat V hV c).after 6 t = blk V c 6 t := by dsimp only [dat]
/-- The first input's buffer holds its block before the body. -/
theorem before_0 (c : Dev nD) (t : Fin cfg1.N) (d) : (dat V hV c).before 0 t d = blk V c 0 t :=
  ((dat V hV c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
/-- The second input's buffer holds its block before the body. -/
theorem before_1 (c : Dev nD) (t : Fin cfg1.N) (d) : (dat V hV c).before 1 t d = blk V c 1 t :=
  ((dat V hV c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
/-- The third input's buffer holds its block before the body. -/
theorem before_2 (c : Dev nD) (t : Fin cfg1.N) (d) : (dat V hV c).before 2 t d = blk V c 2 t :=
  ((dat V hV c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
/-- The fourth input's buffer holds its block before the body. -/
theorem before_3 (c : Dev nD) (t : Fin cfg1.N) (d) : (dat V hV c).before 3 t d = blk V c 3 t :=
  ((dat V hV c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
/-- The fifth input's buffer holds its block before the body. -/
theorem before_4 (c : Dev nD) (t : Fin cfg1.N) (d) : (dat V hV c).before 4 t d = blk V c 4 t :=
  ((dat V hV c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
/-- The sixth input's buffer holds its block before the body. -/
theorem before_5 (c : Dev nD) (t : Fin cfg1.N) (d) : (dat V hV c).before 5 t d = blk V c 5 t :=
  ((dat V hV c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
/-- The seventh input's buffer holds its block before the body. -/
theorem before_6 (c : Dev nD) (t : Fin cfg1.N) (d) : (dat V hV c).before 6 t d = blk V c 6 t :=
  ((dat V hV c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)

/-- What the body is called with at point `t`. -/
def bodyPre (c : Dev nD) (t : Fin cfg1.N) : sProp 𝕄 :=
  iprop((dat V hV c).Φ t.castSucc ∗ (dat V hV c).owesAt () t.castSucc
    ∗ (∃ d, owns (c : Thread nD τ) (st1_0 t) fullShare ((dat V hV c).before 0 t d))
    ∗ (∃ d, owns (c : Thread nD τ) (st1_1 t) fullShare ((dat V hV c).before 1 t d))
    ∗ (∃ d, owns (c : Thread nD τ) (st1_2 t) fullShare ((dat V hV c).before 2 t d))
    ∗ (∃ d, owns (c : Thread nD τ) (st1_3 t) fullShare ((dat V hV c).before 3 t d))
    ∗ (∃ d, owns (c : Thread nD τ) (st1_4 t) fullShare ((dat V hV c).before 4 t d))
    ∗ (∃ d, owns (c : Thread nD τ) (st1_5 t) fullShare ((dat V hV c).before 5 t d))
    ∗ (∃ d, owns (c : Thread nD τ) (st1_6 t) fullShare ((dat V hV c).before 6 t d))
    ∗ (∃ d, owns (c : Thread nD τ) (st1_7 t) fullShare ((dat V hV c).before 7 t d)))

/-- What it returns. -/
def bodyPost (c : Dev nD) (t : Fin cfg1.N) : sProp 𝕄 :=
  iprop((dat V hV c).Φ t.succ ∗ (dat V hV c).owesAt () t.succ
    ∗ owns (c : Thread nD τ) (st1_0 t) fullShare ((dat V hV c).after 0 t)
    ∗ owns (c : Thread nD τ) (st1_1 t) fullShare ((dat V hV c).after 1 t)
    ∗ owns (c : Thread nD τ) (st1_2 t) fullShare ((dat V hV c).after 2 t)
    ∗ owns (c : Thread nD τ) (st1_3 t) fullShare ((dat V hV c).after 3 t)
    ∗ owns (c : Thread nD τ) (st1_4 t) fullShare ((dat V hV c).after 4 t)
    ∗ owns (c : Thread nD τ) (st1_5 t) fullShare ((dat V hV c).after 5 t)
    ∗ owns (c : Thread nD τ) (st1_6 t) fullShare ((dat V hV c).after 6 t)
    ∗ owns (c : Thread nD τ) (st1_7 t) fullShare ((dat V hV c).after 7 t))

/-- The body at any point: its inputs' buffers hold their blocks, the rest passes through. -/
theorem body_at (c : Dev nD) (t : Fin cfg1.N) :
    bodyPre V hV c t ⊢ wp frame (wpE (defs₀ (F := F)) Variants.none c none) Set.univ (bodyAt1 t) (fun _ => bodyPost V hV c t) := by
  unfold bodyPre bodyPost bodyAt1
  simp only [before_0, before_1, before_2, before_3, before_4, before_5, before_6]
  rw [show (dat V hV c).Φ t.succ = (dat V hV c).Φ t.castSucc from rfl,
    show (dat V hV c).owesAt () t.succ = (dat V hV c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c Set.univ (grid1.coords t) _ _ _ _ _ _ _ _ _ _ _ _ _ _ _ _ (blk V c 0 t) (blk V c 1 t) (blk V c 2 t) (blk V c 3 t) (blk V c 4 t) (blk V c 5 t) (blk V c 6 t) (hV c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body at `t`. -/
theorem row (t : Fin cfg1.N) : defs₀ (F := F) .tc cfg1.body (cfg1.bodyArgs t (cfg1.slots t)) = bodyAt1 t := by
  unfold defs₀; rw [Defs.onTc_tc]

/-- The body meets the pipeline's obligation at every point. -/
theorem obligation (c : Dev nD) : BodyObligation (dat V hV c) (defs₀ (F := F)) Variants.none () Set.univ := fun t => by
  rw [bigSep_W1, bigSep_W1, row]
  exact triple_restated (body_at V hV c t) rfl .rfl fun _ => .rfl

end Cert.KernelIdeal.Rows

end
-- ==== Proof.Ideal.Run.lean ====
module

public import proofs.«01_k».proof.Proof.Ideal.Tables
public import proofs.«01_k».proof.Proof.Ideal.Rows
public import proofs.«01_k».proof.Proof.Gen.KernelIdeal.Regions
public import Idealize.ShloMosaic.Lib.Pipeline.RegionArraysS

/-! The whole run: host operations, the first call, two reshapes, the second call.  Between the items every
buffer that outlives a call is held at a known valuation, so the run ends with each of them at the last one. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- The buffers after the first host stretch. -/
def W1 (c : Dev nD) : Valuation τ sig (Elt F) := StableHlo.after hostOps0 (V0 m c)
/-- The buffers after the first call. -/
def W2 (c : Dev nD) : Valuation τ sig (Elt F) := Pipeline.afterRegion (Tables.dat (W1 m) c) (W1 m c)
/-- The buffers after the two reshapes. -/
def W3 (c : Dev nD) : Valuation τ sig (Elt F) := StableHlo.after hostOps1 (W2 m c)

/-- Every word of the types that the second call reads names an element. -/
def Fit : Prop := ∀ c, Rows.Fits (W3 m) c

variable (hF : Fit m)

/-- The buffers after the second call. -/
def W4 (c : Dev nD) : Valuation τ sig (Elt F) := Pipeline.afterRegion (Rows.dat (W3 m) hF c) (W3 m c)

/-- Both calls' proof data. -/
def dats : (p : Fin 2) → (c : Dev nD) → Dat τ (Elt F) Unit ℕ (UR sig nD τ) ℕ (cfgs p) c
  | ⟨0, _⟩, c => Tables.dat (W1 m) c
  | ⟨1, _⟩, c => Rows.dat (W3 m) hF c

/-! ## The items as segments -/

/-- The cells whose waits are counted: all of the TensorCore's. -/
def L (g : GSem nD τ sig) : Finset Unit := if g.1.2 = .tc then {()} else ∅
/-- All at one level: nobody owes anybody anything. -/
def lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

/-- The first host stretch. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The reshapes between the calls. -/
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R

/-- Both calls' staging cells are counted, and nothing is owed. -/
theorem cut (p : Fin 2) : Pipeline.LevelCut (pcfgs (F := F)) adm () L lv p (fun _ : Dev nD => (0 : CellTallies nD τ sig Unit)) (fun _ => 0) where
  hι _ _ _ := by unfold L; rw [if_pos rfl]; exact Finset.mem_singleton_self _
  hιb _ _ _ := le_refl _
  hD _ _ _ h := absurd h (lt_irrefl 0)

/-- Nothing beside the scratch is taken in. -/
theorem drop_emp {gr W : ℕ} (S : Fin W → Pipeline.WinSpec sig gr) (c : Dev nD) :
    iprop(Pipeline.scopedRest S c ∗ emp) ⊢ (Pipeline.scopedRest S c : sProp 𝕄) := by
  iintro ⟨H, -⟩; iexact H
/-- Nothing beside the scratch is given back. -/
theorem add_emp {gr W : ℕ} (S : Fin W → Pipeline.WinSpec sig gr) (c : Dev nD) :
    (Pipeline.scopedRest S c : sProp 𝕄) ⊢ iprop(Pipeline.scopedRest S c ∗ emp) := by
  iintro H; isplitl [H]; · iexact H
  iempintro

section
set_option backward.isDefEq.respectTransparency.types false

/-- The first call, entered at `W1` and left at `W2`. -/
def call0 : RegionSeg (pcfgs (F := F)) adm (dats m hF) () defs₀ Variants.none L lv 0 :=
  Pipeline.RegionSeg.ofHeldIn (pcfgs (F := F)) adm (dats m hF) () defs₀ Variants.none L lv 0 (fun _ => 0) (Pipeline.ucRefs τ sig)
    (fun _ => iprop(emp)) (fun _ => iprop(emp)) launch0.toP rfl (fun c => (Tables.obligation (W1 m) c).loose) (fun _ _ => rfl) (fun _ => rfl)
    (fun c => (Tables.dat (W1 m) c).share_full fun _ => rfl)
    (fun c => by rw [show (dats m hF 0 c).Φ 0 = Pipeline.scopedRest spec0 c from rfl]; exact drop_emp spec0 c)
    (fun c => by rw [show (dats m hF 0 c).Φ (Fin.last _) = Pipeline.scopedRest spec0 c from rfl]; exact add_emp spec0 c)
    (fun _ => 0) (cut 0) (fun _ => iprop(emp)) (W1 m) (fun c w => Tables.dat_A (W1 m) c w)

/-- The second call, entered at `W3` and left at `W4`. -/
def call1 : RegionSeg (pcfgs (F := F)) adm (dats m hF) () defs₀ Variants.none L lv 1 :=
  Pipeline.RegionSeg.ofHeldIn (pcfgs (F := F)) adm (dats m hF) () defs₀ Variants.none L lv 1 (fun _ => 0) (Pipeline.ucRefs τ sig)
    (fun _ => iprop(emp)) (fun _ => iprop(emp)) launch1.toP rfl (fun c => (Rows.obligation (W3 m) hF c).loose) (fun _ _ => rfl) (fun _ => rfl)
    (fun c => (Rows.dat (W3 m) hF c).share_full fun _ => rfl)
    (fun c => by rw [show (dats m hF 1 c).Φ 0 = Pipeline.scopedRest spec1 c from rfl]; exact drop_emp spec1 c)
    (fun c => by rw [show (dats m hF 1 c).Φ (Fin.last _) = Pipeline.scopedRest spec1 c from rfl]; exact add_emp spec1 c)
    (fun _ => 0) (cut 1) (fun _ => iprop(emp)) (W3 m) (fun c w => Rows.dat_A (W3 m) hF c w)

/-- The arrays of call 0 outlive it. -/
theorem arrs0 : Pipeline.arrRefs (τ := τ) spec0 ⊆ Pipeline.ucRefs τ sig := Pipeline.arrRefs_sub_ucRefs spec0 (by decide)

/-- Call 0 is entered from the buffers at `W1 m`. -/
theorem call0_pre (c : Dev nD) :
    iprop(StableHlo.held (c : Thread nD τ) (Pipeline.ucRefs τ sig) (W1 m c) ∗ R c) ⊢ (call0 m hF).pre c := by
  unfold call0
  refine BIBase.Entails.trans ?_ (Pipeline.RegionSeg.ofHeldIn_pre (pcs := pcfgs (F := F)) (a := adm) (pdats := dats m hF) (ι := ()) (defs₀ := defs₀)
    (𝒱₀ := Variants.none) (L := L) (lv := lv) (p := 0) (D := fun _ => 0) (X := fun _ => iprop(emp)) (Y := fun _ => iprop(emp)) (b := fun _ => 0)
    (R := fun _ => iprop(emp)) (W := W1 m) arrs0 c)
  iintro ⟨Hh, HR⟩
  isplitl [Hh]; · iexact Hh
  isplitl [HR]; · iexact HR
  isplitl <;> iempintro

/-- Call 0 leaves the buffers at `W2 m`. -/
theorem call0_post (c : Dev nD) :
    (call0 m hF).post c ⊢ iprop(StableHlo.held (c : Thread nD τ) (Pipeline.ucRefs τ sig) (W2 m c) ∗ R c) := by
  unfold call0
  refine (Pipeline.RegionSeg.ofHeldIn_post (pcs := pcfgs (F := F)) (a := adm) (pdats := dats m hF) (ι := ()) (defs₀ := defs₀)
    (𝒱₀ := Variants.none) (L := L) (lv := lv) (p := 0) (D := fun _ => 0) (X := fun _ => iprop(emp)) (Y := fun _ => iprop(emp)) (b := fun _ => 0)
    (R := fun _ => iprop(emp)) (W := W1 m) arrs0 c).trans ?_
  iintro ⟨Hh, HR, -⟩
  isplitl [Hh]; · iexact Hh
  iexact HR

/-- The arrays of call 1 outlive it. -/
theorem arrs1 : Pipeline.arrRefs (τ := τ) spec1 ⊆ Pipeline.ucRefs τ sig := Pipeline.arrRefs_sub_ucRefs spec1 (by decide)

/-- Call 1 is entered from the buffers at `W3 m`. -/
theorem call1_pre (c : Dev nD) :
    iprop(StableHlo.held (c : Thread nD τ) (Pipeline.ucRefs τ sig) (W3 m c) ∗ R c) ⊢ (call1 m hF).pre c := by
  unfold call1
  refine BIBase.Entails.trans ?_ (Pipeline.RegionSeg.ofHeldIn_pre (pcs := pcfgs (F := F)) (a := adm) (pdats := dats m hF) (ι := ()) (defs₀ := defs₀)
    (𝒱₀ := Variants.none) (L := L) (lv := lv) (p := 1) (D := fun _ => 0) (X := fun _ => iprop(emp)) (Y := fun _ => iprop(emp)) (b := fun _ => 0)
    (R := fun _ => iprop(emp)) (W := W3 m) arrs1 c)
  iintro ⟨Hh, HR⟩
  isplitl [Hh]; · iexact Hh
  isplitl [HR]; · iexact HR
  isplitl <;> iempintro

/-- Call 1 leaves the buffers at `W4 m hF`. -/
theorem call1_post (c : Dev nD) :
    (call1 m hF).post c ⊢ iprop(StableHlo.held (c : Thread nD τ) (Pipeline.ucRefs τ sig) (W4 m hF c) ∗ R c) := by
  unfold call1
  refine (Pipeline.RegionSeg.ofHeldIn_post (pcs := pcfgs (F := F)) (a := adm) (pdats := dats m hF) (ι := ()) (defs₀ := defs₀)
    (𝒱₀ := Variants.none) (L := L) (lv := lv) (p := 1) (D := fun _ => 0) (X := fun _ => iprop(emp)) (Y := fun _ => iprop(emp)) (b := fun _ => 0)
    (R := fun _ => iprop(emp)) (W := W3 m) arrs1 c).trans ?_
  iintro ⟨Hh, HR, -⟩
  isplitl [Hh]; · iexact Hh
  iexact HR

end

/-! ## The run -/

/-- The run's item list. -/
abbrev items : List (Seg (pcfgs (F := F)) adm (dats m hF) () defs₀ Variants.none L lv) :=
  [.host (host0 m), .region (call0 m hF), .host (host1 m), .region (call1 m hF)]

/-- The launch's ghost state: the staging cells' own. -/
def u₀ : UR sig nD τ := initOf (Pipeline.cells cfgs cellOf_inj) (Pipeline.launchToks cfgs cellOf_inj)

/-- The pipelines' algebra is all of the ghost state. -/
abbrev EP : Emb (UR sig nD τ) 𝕄 := (uEmb (nD := nD) (sig := sig) (Ix := Unit) (Val := Elt F) (Name := ℕ) (U := UR sig nD τ) (Lvl := ℕ)).toEmb

/-- No semaphore outlives a call. -/
theorem no_unscoped : ∀ sm : SemLoc sig, sm.isScoped .tc = true := by decide

set_option backward.isDefEq.respectTransparency.types false in
/-- Every weakly fair execution from memory `m` with all counters at zero ends, with every counter at zero and every
buffer that outlives the calls at `W4`. -/
theorem run (ρ : Dev nD → PrngReg) :
    θ_run defs (onTc (τ := τ) (main (F := F))) ⟨m, fun _ => 0, ρ⟩ (fun r =>
      (∀ (c : Dev nD) (b : Ref sig .tc), ¬ (Proc.devRef .tc b : DevRef τ sig).isScoped →
        r.2.mem ((c.tc : Thread nD τ).loc b) = W4 m hF c (Proc.devRef .tc b))
      ∧ r.2.sem = fun _ => 0) := by
  refine Pipeline.θ_run_regions_kit_dev_sems (pcfgs (F := F)) adm (dats m hF) () cellOf_inj EP defs₀ Variants.none L lv m ρ main
    (fun _ => items m hF)
    (fun c Q => by
      rewrite [main_chain c, Seg.run_eq_chain,
        show (items m hF).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide) (fun _ => 0)
    (fun g h => by unfold L; rw [if_neg h]) (fun _ => iprop(emp)) u₀ ?hu
    (T₀ := fun c => iprop(StableHlo.held (c : Thread nD τ) (Pipeline.ucRefs τ sig) (V0 m c) ∗ R c))
    (Tₙ := fun c => StableHlo.held (c : Thread nD τ) (Pipeline.ucRefs τ sig) (W4 m hF c))
    (hch := fun c => ⟨.rfl, ?pre0, ?post0, ?pre1, ?post1⟩)
    (hinit := ?hi)
    (QY := fun c s => ∀ b : Ref sig .tc, ¬ (Proc.devRef .tc b : DevRef τ sig).isScoped →
        s.mem ((c.tc : Thread nD τ).loc b) = W4 m hF c (Proc.devRef .tc b))
    (hfin := fun c s' => ?hf) (hQ := fun _ h hz => ⟨h, funext fun g => hz g (.inr (no_unscoped g.2))⟩)
  case hu =>
    unfold u₀ ownU
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  case pre0 => exact call0_pre m hF c
  case post0 => exact call0_post m hF c
  case pre1 => exact call1_pre m hF c
  case post1 => exact call1_post m hF c
  case hi =>
    refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  case hf =>
    unfold StableHlo.held
    iintro ⟨Hh, HSI⟩
    ihave Hr := (pointsTo_read_all (Pipeline.ucRefs τ sig) (fun b => ((c : Thread nD τ).1, b)) (W4 m hF c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, hb⟩)
    · iexact HSI

end Cert.KernelIdeal.Run

end
-- ==== Proof.Ideal.Keep.lean ====
module

public import proofs.«01_k».proof.Proof.Ideal.Run
public import proofs.«01_k».proof.Pre_types_in_range

/-! What the run leaves alone, and why the words of the types are in range. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the items leave alone -/

/-- The first call changes its three results only. -/
theorem W2_of (c : Dev nD) (r : Ref sig .tc) (h : ∀ w, Pipeline.arrRef spec0 w = r → (cfg0.win w).isOut = false) :
    W2 m c (Proc.devRef .tc r) = W1 m c (Proc.devRef .tc r) :=
  Pipeline.afterRegion_keeps (Tables.dat (W1 m) c) (W1 m c) launch0.win.arr_inj (fun w => Tables.dat_A (W1 m) c w) r h

/-- The reshapes change their two results only. -/
theorem W3_of (c : Dev nD) (r : Ref sig .tc) (h : r ∉ hostOps1_W) : W3 m c (Proc.devRef .tc r) = W2 m c (Proc.devRef .tc r) :=
  StableHlo.after_of_writes_sub hostOps1 _ hostOps1_writes h

/-- The second call changes its result only. -/
theorem W4_of (hF : Fit m) (c : Dev nD) (r : Ref sig .tc) (h : ∀ w, Pipeline.arrRef spec1 w = r → (cfg1.win w).isOut = false) :
    W4 m hF c (Proc.devRef .tc r) = W3 m c (Proc.devRef .tc r) :=
  Pipeline.afterRegion_keeps (Rows.dat (W3 m) hF c) (W3 m c) launch1.win.arr_inj (fun w => Rows.dat_A (W3 m) hF c w) r h

/-- A buffer that no item writes ends as launched. -/
theorem W4_keeps (hF : Fit m) (c : Dev nD) (r : Ref sig .tc)
    (h1 : ∀ w, Pipeline.arrRef spec1 w = r → (cfg1.win w).isOut = false) (h2 : r ∉ hostOps1_W)
    (h3 : ∀ w, Pipeline.arrRef spec0 w = r → (cfg0.win w).isOut = false) (h4 : r ∉ hostOps0_W) :
    W4 m hF c (Proc.devRef .tc r) = m ((c.tc : Thread nD τ).loc r) :=
  (W4_of m hF c r h1).trans <| (W3_of m c r h2).trans <| (W2_of m c r h3).trans <|
    StableHlo.after_of_writes_sub hostOps0 _ hostOps0_writes h4

/-! ## The words of the types -/

/-- A word below 3 names an element: every block it selects lies inside its table. -/
theorem chk_of_lt (e : BitVec 32) (h : e.toNat < 3) : k1_chk1 e := by
  have : e = 0#32 ∨ e = 1#32 ∨ e = 2#32 := by
    rcases (by omega : e.toNat = 0 ∨ e.toNat = 1 ∨ e.toNat = 2) with h | h | h
    · exact .inl (BitVec.eq_of_toNat_eq h)
    · exact .inr (.inl (BitVec.eq_of_toNat_eq h))
    · exact .inr (.inr (BitVec.eq_of_toNat_eq h))
  rcases this with rfl | rfl | rfl <;> decide

/-- The reshaped types, as launched. -/
theorem W3_types (c : Dev nD) :
    W3 m c (Proc.devRef .tc main_v105) = shapeCast S2048x1 (m ((c.tc : Thread nD τ).loc main_arg1)) shapeCasts_S2048_S2048x1 := by
  have h : W2 m c (Proc.devRef .tc main_arg1) = m ((c.tc : Thread nD τ).loc main_arg1) :=
    (W2_of m c main_arg1 (by decide)).trans (StableHlo.after_of_writes_sub hostOps0 _ hostOps0_writes (by decide))
  rw [← h]
  rfl

/-- If every type is below 3, every word that the second call reads names an element. -/
theorem fit_of (h : ∀ (c : Dev nD) (i : S2048.Idx), (m ((c.tc : Thread nD τ).loc main_arg1) i : BitVec 32).toNat < 3) : Fit m := fun c t a => by
  refine chk_of_lt _ ?_
  have hx : ∀ i, (W3 m c (Proc.devRef .tc main_v105) i : BitVec 32).toNat < 3 := by
    rw [W3_types]; exact fun i => h c _
  exact hx _

/-- A word that is at least 0 and less than 3, both as signed numbers, is below 3. -/
theorem word_lt (e : BitVec 32) (h : IntOp.andi (IntOp.cmpi .sge e 0#32) (IntOp.cmpi .slt e 3#32) = 1#1) : e.toNat < 3 := by
  rw [WordCmp.cmpi_sge_eq, WordCmp.cmpi_slt_eq, WordCmp.andi_ofBool, WordCmp.ofBool_eq_one_iff, Bool.and_eq_true, decide_eq_true_eq, decide_eq_true_eq,
    show (0#32 : BitVec 32).toInt = 0 from rfl, show (3#32 : BitVec 32).toInt = 3 from rfl, BitVec.toInt_eq_toNat_cond] at h
  have := e.isLt
  split_ifs at h <;> omega

/-- The precondition on the types says that every type is below 3. -/
theorem types_lt [Cert.Pre_types_in_range.Facts] (x : FVec F S2048x16x96 .f32) (ty : IVec S2048 32) (a2 : FVec F S16x16x16x23 .f32)
    (a3 : FVec F S16x16x4 .f32) (a4 : FVec F S16x1 .f32) (a5 : FVec F S3x23x96 .f32) (a6 : FVec F S3x4x96 .f32) (a7 : FVec F S3x1x96 .f32)
    (h : Cert.Pre_types_in_range.fn x ty a2 a3 a4 a5 a6 a7 = fun _ => 1#1) (i : S2048.Idx) : (ty i).toNat < 3 :=
  word_lt _ (congrFun h i)

/-- With every type below 3 the run ends with the result at `W4`, every argument as launched and every counter at zero. -/
theorem run_keeps (ρ : Dev nD → PrngReg) (hF : Fit m) :
    θ_run defs (onTc (τ := τ) (main (F := F))) ⟨m, fun _ => 0, ρ⟩ (fun r => (∀ c : Dev nD,
      r.2.mem ((c.tc : Thread nD τ).loc main_v106) = W4 m hF c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine θ_run_mono (run m hF ρ) fun r h => ?_
  have K : ∀ (c : Dev nD) (b : Ref sig .tc), ¬ (Proc.devRef .tc b : DevRef τ sig).isScoped →
      (∀ w, Pipeline.arrRef spec1 w = b → (cfg1.win w).isOut = false) → b ∉ hostOps1_W →
      (∀ w, Pipeline.arrRef spec0 w = b → (cfg0.win w).isOut = false) → b ∉ hostOps0_W →
      r.2.mem ((c.tc : Thread nD τ).loc b) = m ((c.tc : Thread nD τ).loc b) := fun c b hb h1 h2 h3 h4 =>
    (h.1 c b hb).trans (W4_keeps m hF c b h1 h2 h3 h4)
  exact ⟨fun c => ⟨h.1 c main_v106 (by decide), K c main_arg0 (by decide) (by decide) (by decide) (by decide) (by decide), K c main_arg1 (by decide) (by decide) (by decide) (by decide) (by decide), K c main_arg2 (by decide) (by decide) (by decide) (by decide) (by decide), K c main_arg3 (by decide) (by decide) (by decide) (by decide) (by decide), K c main_arg4 (by decide) (by decide) (by decide) (by decide) (by decide), K c main_arg5 (by decide) (by decide) (by decide) (by decide) (by decide), K c main_arg6 (by decide) (by decide) (by decide) (by decide) (by decide), K c main_arg7 (by decide) (by decide) (by decide) (by decide) (by decide)⟩, h.2⟩

end Cert.KernelIdeal.Run

end
-- ==== Proof.Value.Prefix.lean ====
module

public import proofs.«01_k».proof.Proof.Ideal.Keep
public import Idealize.ShloMosaic.Lib.StableHlo.RunRead

/-! What the first host stretch leaves in the arrays that the two calls read, as expressions in the arguments. -/

@[expose] public section

set_option maxRecDepth 16384

noncomputable section

namespace Cert.KernelIdeal.Prefix

open Cert.KernelIdeal Cert.KernelIdeal.Gen
open Idealize.ShloMosaic Idealize.ShloMosaic.TcCoe Idealize.ShloMosaic.Tactic

variable {F : FTy → Type} [FloatOps F]

/-- The first coordinates of the pairs. -/
def rowsI : (⟨S136, .i32⟩ : BufTy).Contents (Elt F) := fun i => lit0 (S136.rowMajor i)
/-- The second coordinates of the pairs. -/
def rowsJ : (⟨S136, .i32⟩ : BufTy).Contents (Elt F) := fun i => lit1 (S136.rowMajor i)

/-- A column of coordinates, none of which is negative, as an index column. -/
def column (a : (⟨S136, .i32⟩ : BufTy).Contents (Elt F)) : (⟨S136x1, .i32⟩ : BufTy).Contents (Elt F) :=
  broadcastInDim S136x1 ![0] bcast_S136_S136x1_0
    (select (constantI S136 1 0#1) (addi a (broadcastInDim S136 ![] bcast_S_S136 (constantI S_ 32 16#32))) a)

/-- Two columns side by side. -/
def pairs (a b : (⟨S136, .i32⟩ : BufTy).Contents (Elt F)) : (⟨S136x2, .i32⟩ : BufTy).Contents (Elt F) :=
  concatenate S136x2 1 [⟨S136x1, column (F := F) a⟩, ⟨S136x1, column (F := F) b⟩] concatenates_S136x1_S136x1_S136x2_d1

/-- The coefficients at the pairs, with the third coordinate first. -/
def plane (x : (⟨S16x16x16x23, .f32⟩ : BufTy).Contents (Elt F)) : (⟨S1x16x136x23, .f32⟩ : BufTy).Contents (Elt F) :=
  broadcastInDim S1x16x136x23 ![1, 2, 3] bcast_S16x136x23_S1x16x136x23_1_2_3
    (transpose S16x136x23 [1, 0, 2] (Host.gather gather_S16x16x16x23_S136x2_S136x16x23_12_01_n_n_01_1_111623 x (pairs (F := F) rowsI rowsJ))
      transposes_S136x16x23_S16x136x23_1_0_2)

/-- The six planes of transposed coefficients. -/
def planes (x : (⟨S16x16x16x23, .f32⟩ : BufTy).Contents (Elt F)) : (⟨S6x2176x23, .f32⟩ : BufTy).Contents (Elt F) :=
  shapeCast S6x2176x23 (concatenate S6x16x136x23 0
    [⟨S1x16x136x23, plane x⟩,
     ⟨S1x16x136x23, plane (transpose S16x16x16x23 [0, 2, 1, 3] x transposes_S16x16x16x23_S16x16x16x23_0_2_1_3)⟩,
     ⟨S1x16x136x23, plane (transpose S16x16x16x23 [1, 0, 2, 3] x transposes_S16x16x16x23_S16x16x16x23_1_0_2_3)⟩,
     ⟨S1x16x136x23, plane (transpose S16x16x16x23 [1, 2, 0, 3] x transposes_S16x16x16x23_S16x16x16x23_1_2_0_3)⟩,
     ⟨S1x16x136x23, plane (transpose S16x16x16x23 [2, 0, 1, 3] x transposes_S16x16x16x23_S16x16x16x23_2_0_1_3)⟩,
     ⟨S1x16x136x23, plane (transpose S16x16x16x23 [2, 1, 0, 3] x transposes_S16x16x16x23_S16x16x16x23_2_1_0_3)⟩]
    concatenates_S1x16x136x23_S1x16x136x23_S1x16x136x23_S1x16x136x23_S1x16x136x23_S1x16x136x23_S6x16x136x23_d0)
    shapeCasts_S6x16x136x23_S6x2176x23

/-- The scale factors. -/
def scales : (⟨S2176x1, .f32⟩ : BufTy).Contents (Elt F) :=
  Host.divf (fun i => FloatOps.ofBits .f32 (lit2 (S2176x1.rowMajor i))) (fun i => FloatOps.ofBits .f32 (lit3 (S2176x1.rowMajor i)))

/-- The symmetric quadratic coefficients at the pairs. -/
def quads (x : (⟨S16x16x4, .f32⟩ : BufTy).Contents (Elt F)) : (⟨S136x4, .f32⟩ : BufTy).Contents (Elt F) :=
  mulf (addf (Host.gather gather_S16x16x4_S136x2_S136x4_1_01_n_n_01_1_114 x (pairs (F := F) rowsI rowsJ))
      (Host.gather gather_S16x16x4_S136x2_S136x4_1_01_n_n_01_1_114 x (pairs (F := F) rowsJ rowsI)))
    (broadcastInDim S136x4 ![0, 1] bcast_S136x1_S136x4_0_1 (fun i => FloatOps.ofBits .f32 (lit4 (S136x1.rowMajor i))))

/-- The table that selects the pairs' first rows. -/
def pickI : (⟨S136x16, .f32⟩ : BufTy).Contents (Elt F) := fun i => FloatOps.ofBits .f32 (lit5 (S136x16.rowMajor i))
/-- The table that selects the pairs' second rows. -/
def pickJ : (⟨S136x16, .f32⟩ : BufTy).Contents (Elt F) := fun i => FloatOps.ofBits .f32 (lit6 (S136x16.rowMajor i))

variable (V : Valuation τ sig (Elt F))

set_option maxHeartbeats 2000000 in
/-- What the host code leaves as the stack of planes. -/
theorem after_planes : StableHlo.after hostOps0 V (Proc.devRef .tc main_v78) = planes (V (Proc.devRef .tc main_arg2)) := by
  after_reads_simp
  rfl

set_option maxHeartbeats 2000000 in
/-- What it leaves as the scale factors. -/
theorem after_scales : StableHlo.after hostOps0 V (Proc.devRef .tc main_v79) = scales := by
  after_reads_simp
  rfl

set_option maxHeartbeats 2000000 in
/-- What it leaves as the quadratic coefficients. -/
theorem after_quads : StableHlo.after hostOps0 V (Proc.devRef .tc main_v102) = quads (V (Proc.devRef .tc main_arg3)) := by
  after_reads_simp
  rfl

/-- What it leaves as the first selection. -/
theorem after_pickI : StableHlo.after hostOps0 V (Proc.devRef .tc main_cst_19) = pickI := by
  after_reads_simp
  rfl

/-- What it leaves as the second selection. -/
theorem after_pickJ : StableHlo.after hostOps0 V (Proc.devRef .tc main_cst_20) = pickJ := by
  after_reads_simp
  rfl

end Cert.KernelIdeal.Prefix
-- ==== Proof.Value.Atoms.lean ====
module

public import proofs.«01_k».proof.Proof.Ideal.Atoms
public import Idealize.ShloMosaic.Lib.MatmulPlain
public import Idealize.ShloMosaic.Lib.IdealHost
public import Idealize.ShloMosaic.Lib.ValueIdx
public import Idealize.ShloMosaic.Lib.Pipeline.Value

/-! One atom's row over the extended reals, entry by entry. -/

@[expose] public section

set_option maxRecDepth 16384

noncomputable section

namespace Cert.KernelIdeal.Atoms

open Cert.KernelIdeal.Gen
open Idealize.ShloMosaic Idealize.ShloMosaic.TcCoe Idealize.ShloMosaic.ValueIdx
open scoped BigOperators

/-- Feature row `k` read at channel `c`. -/
theorem featRow_apply (k : Fin 16) (xa : FVec Ideal S16x96 .f32) (h : S16x96.Slices ![k.val, 0] S1x96) (z : Fin 1) (c : Fin 96) :
    featRow k.val xa h (ix2 z c) = xa (ix2 k c) := by
  unfold featRow
  refine (shapeCast_addUnit_apply ![96] _ _ _).trans ?_
  refine (shapeCast_dropUnit_apply ![96] _ _ _).trans ?_
  refine extractStridedSlice_apply _ _ _ _ (ix2 k c) fun a => ?_
  match a with
  | ⟨0, _⟩ => show k.val = k.val + 0; omega
  | ⟨1, _⟩ => show c.val = 0 + c.val; omega

/-- A row of the table times a feature row, at an entry. -/
theorem gain_apply (t : ℕ) (k : Fin 16) (xa : FVec Ideal S16x96 .f32) (u : Vec Ideal ⟨4, ![1, 1, t, 96]⟩ .f32)
    (h1 : Shape.ShapeCasts ⟨4, ![1, 1, t, 96]⟩ ⟨2, ![t, 96]⟩)
    (h2 : S16x96.Slices ![k.val, 0] S1x96) (h3 : S1x96.Broadcasts ⟨2, ![t, 96]⟩) (p : Fin t) (c : Fin 96) :
    mulf (shapeCast ⟨2, ![t, 96]⟩ u h1) (broadcastTo ⟨2, ![t, 96]⟩ (featRow k.val xa h2) h3) (ix2 p c)
      = u (ix4 0 0 p c) * xa (ix2 k c) := by
  rw [mulf_apply]
  refine congrArg₂ (· * ·) ?_ ?_
  · refine shapeCast_apply _ _ _ (ix4 0 0 p c) ?_
    rw [Shape.rowMajor_val_four, Shape.rowMajor_val_two]
    show ((0 * 1 + 0) * t + p.val) * 96 + c.val = p.val * 96 + c.val
    omega
  · refine (broadcastTo_apply _ _ _ (ix2 0 c) fun a => ?_).trans (featRow_apply k xa h2 0 c)
    match a with
    | ⟨0, _⟩ => rfl
    | ⟨1, _⟩ => rfl

/-- One step of the accumulation at an entry, when the table's row holds zeros from row `t` on. -/
theorem grow_apply (t r : ℕ) (k : Fin 16) (acc : FVec Ideal S136x96 .f32) (xa : FVec Ideal S16x96 .f32) (u : Vec Ideal ⟨4, ![1, 1, t, 96]⟩ .f32)
    (h0 : S136x96.Slices ![0, 0] ⟨2, ![t, 96]⟩) (h1 : Shape.ShapeCasts ⟨4, ![1, 1, t, 96]⟩ ⟨2, ![t, 96]⟩)
    (h2 : S16x96.Slices ![k.val, 0] S1x96) (h3 : S1x96.Broadcasts ⟨2, ![t, 96]⟩)
    (h4 : S136x96.Slices ![t, 0] ⟨2, ![r, 96]⟩) (h5 : Shape.Concatenates [⟨2, ![t, 96]⟩, ⟨2, ![r, 96]⟩] S136x96 0)
    (c : Fin 96) (T : Fin 136 → EReal) (htr : t + r = 136)
    (hu : ∀ (p : Fin 136) (h : p.val < t), u (ix4 0 0 ⟨p.val, h⟩ c) = T p) (hT : ∀ p : Fin 136, t ≤ p.val → T p = 0) (p : Fin 136) :
    grow t r k.val acc xa u h0 h1 h2 h3 h4 h5 (ix2 p c) = acc (ix2 p c) + T p * xa (ix2 k c) := by
  unfold grow
  by_cases hp : p.val < t
  · refine (concatenate_pair_apply_left (t := S136x96) (s₁ := ⟨2, ![t, 96]⟩) (s₂ := ⟨2, ![r, 96]⟩) 0 _ _ _ (ix2 p c) rfl (ix2 ⟨p.val, hp⟩ c) fun b => ?_).trans ?_
    · match b with | ⟨0, _⟩ => rfl | ⟨1, _⟩ => rfl
    rw [addf_apply, gain_apply, hu p hp]
    refine congrArg (· + _) (extractStridedSlice_apply _ _ _ _ (ix2 p c) fun a => ?_)
    match a with
    | ⟨0, _⟩ => show p.val = 0 + p.val; omega
    | ⟨1, _⟩ => show c.val = 0 + c.val; omega
  · have hp' : p.val - t < r := by have := p.isLt; omega
    refine (concatenate_pair_apply_right (t := S136x96) (s₁ := ⟨2, ![t, 96]⟩) (s₂ := ⟨2, ![r, 96]⟩) 0 _ _ _ (ix2 p c) rfl rfl (ix2 ⟨p.val - t, hp'⟩ c) (fun b hb => ?_) ?_).trans ?_
    · match b with | ⟨0, _⟩ => exact absurd rfl hb | ⟨1, _⟩ => rfl
    · show p.val - t + t = p.val; omega
    rw [hT p (by omega), zero_mul, add_zero]
    refine extractStridedSlice_apply _ _ _ _ (ix2 p c) fun a => ?_
    match a with
    | ⟨0, _⟩ => show p.val = t + (p.val - t); omega
    | ⟨1, _⟩ => show c.val = 0 + c.val; omega

/-- How many rows step `k` updates. -/
def cut : Fin 16 → ℕ := ![8, 8, 8, 16, 16, 24, 32, 40, 48, 56, 72, 80, 96, 112, 120, 136]

set_option maxHeartbeats 1000000 in
/-- The accumulator after the sixteen steps, at an entry: the start plus the table's sixteen rows times the features. -/
theorem accum_apply (acc : FVec Ideal S136x96 .f32) (xa : FVec Ideal S16x96 .f32)
    (u0 : Vec Ideal S1x1x8x96 .f32)
    (u1 : Vec Ideal S1x1x8x96 .f32)
    (u2 : Vec Ideal S1x1x8x96 .f32)
    (u3 : Vec Ideal S1x1x16x96 .f32)
    (u4 : Vec Ideal S1x1x16x96 .f32)
    (u5 : Vec Ideal S1x1x24x96 .f32)
    (u6 : Vec Ideal S1x1x32x96 .f32)
    (u7 : Vec Ideal S1x1x40x96 .f32)
    (u8 : Vec Ideal S1x1x48x96 .f32)
    (u9 : Vec Ideal S1x1x56x96 .f32)
    (u10 : Vec Ideal S1x1x72x96 .f32)
    (u11 : Vec Ideal S1x1x80x96 .f32)
    (u12 : Vec Ideal S1x1x96x96 .f32)
    (u13 : Vec Ideal S1x1x112x96 .f32)
    (u14 : Vec Ideal S1x1x120x96 .f32)
    (u15 : Vec Ideal S1x1x136x96 .f32)
    (c : Fin 96) (T : Fin 16 → Fin 136 → EReal) (hT : ∀ (k : Fin 16) (p : Fin 136), cut k ≤ p.val → T k p = 0)
    (hu0 : ∀ (p : Fin 136) (h : p.val < 8), u0 (ix4 0 0 ⟨p.val, h⟩ c) = T 0 p)
    (hu1 : ∀ (p : Fin 136) (h : p.val < 8), u1 (ix4 0 0 ⟨p.val, h⟩ c) = T 1 p)
    (hu2 : ∀ (p : Fin 136) (h : p.val < 8), u2 (ix4 0 0 ⟨p.val, h⟩ c) = T 2 p)
    (hu3 : ∀ (p : Fin 136) (h : p.val < 16), u3 (ix4 0 0 ⟨p.val, h⟩ c) = T 3 p)
    (hu4 : ∀ (p : Fin 136) (h : p.val < 16), u4 (ix4 0 0 ⟨p.val, h⟩ c) = T 4 p)
    (hu5 : ∀ (p : Fin 136) (h : p.val < 24), u5 (ix4 0 0 ⟨p.val, h⟩ c) = T 5 p)
    (hu6 : ∀ (p : Fin 136) (h : p.val < 32), u6 (ix4 0 0 ⟨p.val, h⟩ c) = T 6 p)
    (hu7 : ∀ (p : Fin 136) (h : p.val < 40), u7 (ix4 0 0 ⟨p.val, h⟩ c) = T 7 p)
    (hu8 : ∀ (p : Fin 136) (h : p.val < 48), u8 (ix4 0 0 ⟨p.val, h⟩ c) = T 8 p)
    (hu9 : ∀ (p : Fin 136) (h : p.val < 56), u9 (ix4 0 0 ⟨p.val, h⟩ c) = T 9 p)
    (hu10 : ∀ (p : Fin 136) (h : p.val < 72), u10 (ix4 0 0 ⟨p.val, h⟩ c) = T 10 p)
    (hu11 : ∀ (p : Fin 136) (h : p.val < 80), u11 (ix4 0 0 ⟨p.val, h⟩ c) = T 11 p)
    (hu12 : ∀ (p : Fin 136) (h : p.val < 96), u12 (ix4 0 0 ⟨p.val, h⟩ c) = T 12 p)
    (hu13 : ∀ (p : Fin 136) (h : p.val < 112), u13 (ix4 0 0 ⟨p.val, h⟩ c) = T 13 p)
    (hu14 : ∀ (p : Fin 136) (h : p.val < 120), u14 (ix4 0 0 ⟨p.val, h⟩ c) = T 14 p)
    (hu15 : ∀ (p : Fin 136) (h : p.val < 136), u15 (ix4 0 0 ⟨p.val, h⟩ c) = T 15 p)
    (p : Fin 136) :
    accum acc xa u0 u1 u2 u3 u4 u5 u6 u7 u8 u9 u10 u11 u12 u13 u14 u15 (ix2 p c) = acc (ix2 p c) + ∑ k : Fin 16, T k p * xa (ix2 k c) := by
  unfold accum
  have hsum : acc (ix2 p c) + ∑ k : Fin 16, T k p * xa (ix2 k c) = acc (ix2 p c) + T 0 p * xa (ix2 0 c) + T 1 p * xa (ix2 1 c) + T 2 p * xa (ix2 2 c) + T 3 p * xa (ix2 3 c) + T 4 p * xa (ix2 4 c) + T 5 p * xa (ix2 5 c) + T 6 p * xa (ix2 6 c) + T 7 p * xa (ix2 7 c) + T 8 p * xa (ix2 8 c) + T 9 p * xa (ix2 9 c) + T 10 p * xa (ix2 10 c) + T 11 p * xa (ix2 11 c) + T 12 p * xa (ix2 12 c) + T 13 p * xa (ix2 13 c) + T 14 p * xa (ix2 14 c) + T 15 p * xa (ix2 15 c) := by
    rw [Fin.sum_univ_succ]
    simp only [Fin.sum_univ_succ, Fin.sum_univ_zero, add_zero, ← add_assoc]
    rfl
  rw [hsum, addf_apply]
  refine congrArg₂ (· + ·) ?_ ((gain_apply 136 15 xa u15 _ _ _ p c).trans (congrArg (· * _) (hu15 p p.isLt)))
  refine (grow_apply 120 16 14 _ xa u14 _ _ _ _ _ _ c (T 14) rfl hu14 (hT 14) p).trans (congrArg (· + _) ?_)
  refine (grow_apply 112 24 13 _ xa u13 _ _ _ _ _ _ c (T 13) rfl hu13 (hT 13) p).trans (congrArg (· + _) ?_)
  refine (grow_apply 96 40 12 _ xa u12 _ _ _ _ _ _ c (T 12) rfl hu12 (hT 12) p).trans (congrArg (· + _) ?_)
  refine (grow_apply 80 56 11 _ xa u11 _ _ _ _ _ _ c (T 11) rfl hu11 (hT 11) p).trans (congrArg (· + _) ?_)
  refine (grow_apply 72 64 10 _ xa u10 _ _ _ _ _ _ c (T 10) rfl hu10 (hT 10) p).trans (congrArg (· + _) ?_)
  refine (grow_apply 56 80 9 _ xa u9 _ _ _ _ _ _ c (T 9) rfl hu9 (hT 9) p).trans (congrArg (· + _) ?_)
  refine (grow_apply 48 88 8 _ xa u8 _ _ _ _ _ _ c (T 8) rfl hu8 (hT 8) p).trans (congrArg (· + _) ?_)
  refine (grow_apply 40 96 7 _ xa u7 _ _ _ _ _ _ c (T 7) rfl hu7 (hT 7) p).trans (congrArg (· + _) ?_)
  refine (grow_apply 32 104 6 _ xa u6 _ _ _ _ _ _ c (T 6) rfl hu6 (hT 6) p).trans (congrArg (· + _) ?_)
  refine (grow_apply 24 112 5 _ xa u5 _ _ _ _ _ _ c (T 5) rfl hu5 (hT 5) p).trans (congrArg (· + _) ?_)
  refine (grow_apply 16 120 4 _ xa u4 _ _ _ _ _ _ c (T 4) rfl hu4 (hT 4) p).trans (congrArg (· + _) ?_)
  refine (grow_apply 16 120 3 _ xa u3 _ _ _ _ _ _ c (T 3) rfl hu3 (hT 3) p).trans (congrArg (· + _) ?_)
  refine (grow_apply 8 128 2 _ xa u2 _ _ _ _ _ _ c (T 2) rfl hu2 (hT 2) p).trans (congrArg (· + _) ?_)
  refine (grow_apply 8 128 1 _ xa u1 _ _ _ _ _ _ c (T 1) rfl hu1 (hT 1) p).trans (congrArg (· + _) ?_)
  refine (grow_apply 8 128 0 _ xa u0 _ _ _ _ _ _ c (T 0) rfl hu0 (hT 0) p).trans (congrArg (· + _) ?_)
  rfl

/-- The features selected by a table of rows, at an entry, when row `p` of the table has its one 1 in column `I p`. -/
theorem select_apply (tab : Vec Ideal S136x16 .f32) (xa : FVec Ideal S16x96 .f32) (I : Fin 136 → Fin 16)
    (h : ∀ p l, tab (ix2 p l) = if l = I p then 1 else 0) (p : Fin 136) (c : Fin 96) :
    select tab xa (ix2 p c) = xa (ix2 (I p) c) := by
  refine (Ideal.matmul_plain_apply (M := 136) (K := 16) (N := 96) none tab xa _ p c).trans ?_
  have z0 : Ideal.ofBits .f32 0x00000000#32 = 0 := by simp
  rw [constant_apply, z0, zero_add]
  simp only [h, ite_mul, one_mul, zero_mul, Finset.sum_ite_eq', Finset.mem_univ, if_true]

/-- The row an atom leaves at a channel: the sum over pairs plus the sum over the linear term. -/
theorem finish_apply (acc p q : FVec Ideal S136x96 .f32) (xa : FVec Ideal S16x96 .f32) (u : Vec Ideal S1x16x96 .f32) (z : Fin 1) (c : Fin 96) :
    finish acc p q xa u (ix2 z c)
      = ∑ r : Fin 136, acc (ix2 r c) * p (ix2 r c) * q (ix2 r c) + ∑ i : Fin 16, u (ix3 0 i c) * xa (ix2 i c) := by
  unfold finish
  refine (shapeCast_addUnit_apply ![96] _ _ _).trans ?_
  refine (shapeCast_dropUnit_apply ![96] _ _ _).trans ?_
  have e : (Fin.cons ⟨0, Nat.one_pos⟩ (fun a : Fin 1 => (ix2 z c : S1x96.Idx) a.succ) : S1x96.Idx) = ix2 0 c := by
    funext a; match a with | ⟨0, _⟩ => rfl | ⟨1, _⟩ => rfl
  refine (congrArg _ e).trans ?_
  refine (Ideal.matmul_plain_apply (M := 1) (K := 152) (N := 96) none _ _ _ 0 c).trans ?_
  have z0 : Ideal.ofBits .f32 0x00000000#32 = 0 := by simp
  have z1 : Ideal.ofBits .f32 0x3F800000#32 = 1 := by simp
  rw [constant_apply, z0, zero_add]
  have hone : ∀ k : Fin 152, (broadcast S1x152 (Scalar.ofBits (F := Ideal) .f32 0x3F800000#32) : FVec Ideal S1x152 .f32) (ix2 0 k) = 1 := fun k => z1
  simp only [hone, one_mul]
  refine (Fin.sum_univ_add (a := 136) (b := 16) _).trans ?_
  refine congrArg₂ (· + ·) (Finset.sum_congr rfl fun r _ => ?_) (Finset.sum_congr rfl fun i _ => ?_)
  · refine (concatenate_pair_apply_left (t := S152x96) (s₁ := S136x96) (s₂ := S16x96) 0 _ _ _ (ix2 (Fin.castAdd 16 r) c) rfl (ix2 r c) fun b => ?_).trans ?_
    · match b with | ⟨0, _⟩ => rfl | ⟨1, _⟩ => rfl
    rw [mulf_apply, mulf_apply]
  · refine (concatenate_pair_apply_right (t := S152x96) (s₁ := S136x96) (s₂ := S16x96) 0 _ _ _ (ix2 (Fin.natAdd 136 i) c) rfl rfl (ix2 i c) (fun b hb => ?_) ?_).trans ?_
    · match b with | ⟨0, _⟩ => exact absurd rfl hb | ⟨1, _⟩ => rfl
    · show i.val + 136 = 136 + i.val; omega
    rw [mulf_apply]
    refine congrArg (· * _) ((shapeCast_dropUnit_apply ![16, 96] _ _ _).trans (congrArg u (funext fun a => ?_)))
    match a with | ⟨0, _⟩ => rfl | ⟨1, _⟩ => rfl | ⟨2, _⟩ => rfl

/-- The first `t` entries of row `k` of element `e`'s part of the cubic table. -/
theorem ld_row (t3 : Vec Ideal S3x16x136x96 .f32) (t : ℕ) (off : Fin 4 → ℕ) (e : Fin 3) (k : Fin 16) (hoff : off = ![e.val, k.val, 0, 0])
    (inb : ∀ a, off a + (⟨4, ![1, 1, t, 96]⟩ : Shape).size a ≤ S3x16x136x96.size a) (c : Fin 96) (p : Fin 136) (h : p.val < t) :
    View.ld t3 (Rect.unit (s := S3x16x136x96) off (⟨4, ![1, 1, t, 96]⟩ : Shape).size inb) (ix4 0 0 ⟨p.val, h⟩ c) = t3 (ix4 e k p c) := by
  subst hoff
  refine congrArg t3 (funext fun a => Fin.ext ?_)
  match a with
  | ⟨0, _⟩ => show e.val + 1 * 0 = e.val; omega
  | ⟨1, _⟩ => show k.val + 1 * 0 = k.val; omega
  | ⟨2, _⟩ => show 0 + 1 * p.val = p.val; omega
  | ⟨3, _⟩ => show 0 + 1 * c.val = c.val; omega

/-- Element `e`'s block of a rank-3 table. -/
theorem ld_elem {M : ℕ} (t : Vec Ideal ⟨3, ![3, M, 96]⟩ .f32) (off : Fin 3 → ℕ) (e : Fin 3) (hoff : off = ![e.val, 0, 0])
    (inb : ∀ a, off a + (⟨3, ![1, M, 96]⟩ : Shape).size a ≤ (⟨3, ![3, M, 96]⟩ : Shape).size a) (r : Fin M) (c : Fin 96) :
    View.ld t (Rect.unit (s := ⟨3, ![3, M, 96]⟩) off (⟨3, ![1, M, 96]⟩ : Shape).size inb) (ix3 0 r c) = t (ix3 e r c) := by
  subst hoff
  refine congrArg t (funext fun a => Fin.ext ?_)
  match a with
  | ⟨0, _⟩ => show e.val + 1 * 0 = e.val; omega
  | ⟨1, _⟩ => show 0 + 1 * r.val = r.val; omega
  | ⟨2, _⟩ => show 0 + 1 * c.val = c.val; omega

/-- Where the loads of a word that names element `e` begin, for every table the second call reads. -/
theorem offs_eq (w : BitVec 32) (e : Fin 3) (hw : w = BitVec.ofNat 32 e.val) :
    k1_off1 w = ![e.val, 0, 0] ∧ k1_off18 w = ![e.val, 0, 0] ∧
    k1_off2 w = ![e.val, 0, 0, 0] ∧ k1_off3 w = ![e.val, 1, 0, 0] ∧ k1_off4 w = ![e.val, 2, 0, 0] ∧ k1_off5 w = ![e.val, 3, 0, 0] ∧ k1_off6 w = ![e.val, 4, 0, 0] ∧ k1_off7 w = ![e.val, 5, 0, 0] ∧ k1_off8 w = ![e.val, 6, 0, 0] ∧ k1_off9 w = ![e.val, 7, 0, 0] ∧ k1_off10 w = ![e.val, 8, 0, 0] ∧ k1_off11 w = ![e.val, 9, 0, 0] ∧ k1_off12 w = ![e.val, 10, 0, 0] ∧ k1_off13 w = ![e.val, 11, 0, 0] ∧ k1_off14 w = ![e.val, 12, 0, 0] ∧ k1_off15 w = ![e.val, 13, 0, 0] ∧ k1_off16 w = ![e.val, 14, 0, 0] ∧ k1_off17 w = ![e.val, 15, 0, 0] := by
  subst hw; revert e; decide

set_option maxHeartbeats 1000000 in
/-- The row of an atom of element `e` at a channel, from the tables. -/
theorem outRow_apply (w : Vec Ideal S8x1 .i32) (x : Vec Ideal S8x16x96 .f32) (t3 : Vec Ideal S3x16x136x96 .f32) (t2 : Vec Ideal S3x136x96 .f32)
    (t1 : Vec Ideal S3x16x96 .f32) (pi pj : Vec Ideal S136x16 .f32) (a : Fin 8) (h : k1_chk1 (word w a)) (I J : Fin 136 → Fin 16)
    (hpi : ∀ p l, pi (ix2 p l) = if l = I p then 1 else 0) (hpj : ∀ p l, pj (ix2 p l) = if l = J p then 1 else 0)
    (hz : ∀ e (k : Fin 16) (p : Fin 136) c, cut k ≤ p.val → t3 (ix4 e k p c) = 0) (e : Fin 3) (he : w (ix2 a 0) = BitVec.ofNat 32 e.val)
    (z : Fin 1) (c : Fin 96) :
    outRow w x t3 t2 t1 pi pj a h (ix2 z c)
      = ∑ p : Fin 136, (t2 (ix3 e p c) + ∑ k : Fin 16, t3 (ix4 e k p c) * x (ix3 a k c)) * x (ix3 a (I p) c) * x (ix3 a (J p) c)
        + ∑ i : Fin 16, t1 (ix3 e i c) * x (ix3 a i c) := by
  have hw : word w a = BitVec.ofNat 32 e.val := by
    refine Eq.trans (congrArg w (funext fun b => Fin.ext ?_)) he
    match b with
    | ⟨0, _⟩ => show a.val + 1 * 0 = a.val; omega
    | ⟨1, _⟩ => rfl
  obtain ⟨o1, o18, o2, o3, o4, o5, o6, o7, o8, o9, o10, o11, o12, o13, o14, o15, o16, o17⟩ := offs_eq _ e hw
  have hx : ∀ k : Fin 16, shapeCast S16x96 (View.ld x (featRect a)) shapeCasts_S1x16x96_S16x96 (ix2 k c) = x (ix3 a k c) := by
    intro k
    refine (shapeCast_dropUnit_apply ![16, 96] _ _ _).trans (congrArg x (funext fun b => Fin.ext ?_))
    match b with
    | ⟨0, _⟩ => show a.val + 1 * 0 = a.val; omega
    | ⟨1, _⟩ => show 0 + 1 * k.val = k.val; omega
    | ⟨2, _⟩ => show 0 + 1 * c.val = c.val; omega
  have hsel : ∀ T : Vec Ideal S136x16 .f32, View.ld T selRect = T := fun T =>
    View.ld_unit_zero (by funext b; match b with | ⟨0, _⟩ => rfl | ⟨1, _⟩ => rfl) _ _
  unfold outRow rowOf
  refine (finish_apply _ _ _ _ _ z c).trans (congrArg₂ (· + ·) (Finset.sum_congr rfl fun p _ => ?_) (Finset.sum_congr rfl fun i _ => ?_))
  · rw [hsel, hsel, select_apply pi _ I hpi, select_apply pj _ J hpj, hx, hx]
    refine congrArg (· * _ * _) ?_
    refine (accum_apply _ _ _ _ _ _ _ _ _ _ _ _ _ _ _ _ _ _ c (fun k p => t3 (ix4 e k p c)) (fun k p hk => hz e k p c hk)
      (fun p h => ld_row t3 8 _ e 0 o2 _ c p h) (fun p h => ld_row t3 8 _ e 1 o3 _ c p h) (fun p h => ld_row t3 8 _ e 2 o4 _ c p h) (fun p h => ld_row t3 16 _ e 3 o5 _ c p h) (fun p h => ld_row t3 16 _ e 4 o6 _ c p h) (fun p h => ld_row t3 24 _ e 5 o7 _ c p h) (fun p h => ld_row t3 32 _ e 6 o8 _ c p h) (fun p h => ld_row t3 40 _ e 7 o9 _ c p h) (fun p h => ld_row t3 48 _ e 8 o10 _ c p h) (fun p h => ld_row t3 56 _ e 9 o11 _ c p h) (fun p h => ld_row t3 72 _ e 10 o12 _ c p h) (fun p h => ld_row t3 80 _ e 11 o13 _ c p h) (fun p h => ld_row t3 96 _ e 12 o14 _ c p h) (fun p h => ld_row t3 112 _ e 13 o15 _ c p h) (fun p h => ld_row t3 120 _ e 14 o16 _ c p h) (fun p h => ld_row t3 136 _ e 15 o17 _ c p h) p).trans ?_
    refine congrArg₂ (· + ·) ?_ (Finset.sum_congr rfl fun k _ => congrArg (t3 (ix4 e k p c) * ·) (hx k))
    refine (shapeCast_dropUnit_apply ![136, 96] _ _ _).trans ?_
    refine Eq.trans (congrArg _ (funext fun b => ?_)) (ld_elem t2 _ e o1 _ p c)
    match b with | ⟨0, _⟩ => rfl | ⟨1, _⟩ => rfl | ⟨2, _⟩ => rfl
  · rw [hx]
    exact congrArg (· * _) (ld_elem t1 _ e o18 _ i c)

/-- The output buffer of a grid point, row by row. -/
theorem outBlock_apply (w : Vec Ideal S8x1 .i32) (x : Vec Ideal S8x16x96 .f32) (t3 : Vec Ideal S3x16x136x96 .f32) (t2 : Vec Ideal S3x136x96 .f32)
    (t1 : Vec Ideal S3x16x96 .f32) (pi pj : Vec Ideal S136x16 .f32) (h : ∀ a, k1_chk1 (word w a)) (a : Fin 8) (c : Fin 96) :
    outBlock w x t3 t2 t1 pi pj h (ix2 a c) = outRow w x t3 t2 t1 pi pj a (h a) (ix2 0 c) := by
  let H : S8x96.Idx → EReal := fun y => outRow w x t3 t2 t1 pi pj (y 0) (h (y 0)) (ix2 0 (y 1))
  have key : ∀ (a : Fin 8) (y : S1x96.Idx), outRow w x t3 t2 t1 pi pj a (h a) y = H ((outRect a).emb y) := by
    intro a y
    have e0 : ((outRect a).emb y) 0 = a := Fin.ext (by
      have h0 : (y 0).val < 1 := (y 0).isLt
      show a.val + 1 * (y 0).val = a.val; omega)
    have e1 : ((outRect a).emb y) 1 = y 1 := Fin.ext (by show 0 + 1 * (y 1).val = (y 1).val; omega)
    have h0 : y 0 = (0 : Fin 1) := Fin.ext (by have h0 : (y 0).val < 1 := (y 0).isLt; show (y 0).val = 0; omega)
    have ey : y = ix2 (0 : Fin 1) (y 1) := (eq_ix2 y).trans (by rw [h0]; rfl)
    have : H ((outRect a).emb y) = H (ix2 a (y 1)) := congrArg H (by
      funext b; match b with | ⟨0, _⟩ => exact e0 | ⟨1, _⟩ => exact e1)
    rw [this]
    exact congrArg _ ey
  refine View.canon_apply_of_pieces (Val := Elt Ideal) (e := .f32) H _ ?_ _ (rows_cover _ _)
  intro p hp y
  simp only [rowPieces, List.mem_cons, List.not_mem_nil, or_false] at hp
  rcases hp with rfl | rfl | rfl | rfl | rfl | rfl | rfl | rfl
  · exact key 7 y
  · exact key 6 y
  · exact key 5 y
  · exact key 4 y
  · exact key 3 y
  · exact key 2 y
  · exact key 1 y
  · exact key 0 y

end Cert.KernelIdeal.Atoms
-- ==== Proof.Value.Lits.lean ====
module

public import proofs.«01_k».proof.Proof.Value.Prefix
public import proofs.«01_k».proof.Proof.Value.Atoms
public import Mathlib.Data.Fintype.Prod

/-! The program's literal tables: the pairs of rows, the masks and counts of the scale factors, and the selections. -/

@[expose] public section

set_option maxRecDepth 65536

noncomputable section

namespace Cert.KernelIdeal.Prefix

open Cert.KernelIdeal Cert.KernelIdeal.Gen
open Idealize.ShloMosaic Idealize.ShloMosaic.TcCoe

/-- The first row of pair `p`. -/
def rowI (p : Fin 136) : Fin 16 := Fin.ofNat 16 (lit0 p).toNat
/-- The second row of pair `p`. -/
def rowJ (p : Fin 136) : Fin 16 := Fin.ofNat 16 (lit1 p).toNat

/-- The row of the cubic table that holds third row `k` of pair `p`. -/
def at3 (k : Fin 16) (p : Fin 136) : Fin 2176 := ⟨136 * k.val + p.val, by omega⟩
/-- The position of column `l` of row `p` in a selection table. -/
def at2 (p : Fin 136) (l : Fin 16) : Fin 2176 := ⟨16 * p.val + l.val, by omega⟩

/-- The first literal lists the pairs' first rows. -/
theorem lit0_eq : ∀ p, (lit0 p).toInt.toNat = (rowI p).val := by decide +kernel
/-- The second literal lists the pairs' second rows. -/
theorem lit1_eq : ∀ p, (lit1 p).toInt.toNat = (rowJ p).val := by decide +kernel

/-- The mask: 1 where the third row is at or after the pair's second, else 0. -/
theorem lit2_eq : ∀ (k : Fin 16) (p : Fin 136), lit2 (at3 k p) = if rowJ p ≤ k then 0x3F800000#32 else 0x00000000#32 := by
  decide +kernel

/-- How often a triple of rows is counted: 6 when all are equal, 2 when two neighbours are, else 1. -/
theorem lit3_eq : ∀ (k : Fin 16) (p : Fin 136), lit3 (at3 k p)
    = if rowI p = rowJ p ∧ rowJ p = k then 0x40C00000#32 else if rowI p = rowJ p ∨ rowJ p = k then 0x40000000#32 else 0x3F800000#32 := by
  decide +kernel

/-- The factor of a pair: one half on the diagonal, else 1. -/
theorem lit4_eq : ∀ p : Fin 136, lit4 p = if rowI p = rowJ p then 0x3F000000#32 else 0x3F800000#32 := by decide +kernel

/-- The first selection: 1 at the pair's first row, else 0. -/
theorem lit5_eq : ∀ (p : Fin 136) (l : Fin 16), lit5 (at2 p l) = if l = rowI p then 0x3F800000#32 else 0x00000000#32 := by
  decide +kernel

/-- The second selection: 1 at the pair's second row, else 0. -/
theorem lit6_eq : ∀ (p : Fin 136) (l : Fin 16), lit6 (at2 p l) = if l = rowJ p then 0x3F800000#32 else 0x00000000#32 := by
  decide +kernel

/-- No two pairs have the same rows. -/
theorem rows_injective : ∀ p q : Fin 136, rowI p = rowI q → rowJ p = rowJ q → p = q := by decide +kernel

/-- The pairs are the pairs of rows in order. -/
theorem rows_image : (Finset.univ : Finset (Fin 136)).image (fun p => (rowI p, rowJ p))
    = (Finset.univ : Finset (Fin 16 × Fin 16)).filter (fun q => q.1 ≤ q.2) := by decide +kernel

/-- Third row `k` comes before the second row of every pair that step `k` leaves out. -/
theorem cut_lt : ∀ (k : Fin 16) (p : Fin 136), Atoms.cut k ≤ p.val → k < rowJ p := by decide +kernel

end Cert.KernelIdeal.Prefix
-- ==== Proof.Value.Host.lean ====
module

public import proofs.«01_k».proof.Proof.Value.Lits
public import Idealize.ShloMosaic.Lib.IdealHost
public import Idealize.ShloMosaic.Lib.ValueIdx
public import Idealize.ShloMosaic.Lib.Pipeline.Value

/-! The arrays of the first host stretch over the extended reals, entry by entry. -/

@[expose] public section

set_option maxRecDepth 16384

noncomputable section

namespace Cert.KernelIdeal.Prefix

open Cert.KernelIdeal Cert.KernelIdeal.Gen
open Idealize.ShloMosaic Idealize.ShloMosaic.TcCoe Idealize.ShloMosaic.ValueIdx

/-! ## The pairs -/

/-- An index column holds the coordinates themselves. -/
theorem column_apply (a : (⟨S136, .i32⟩ : BufTy).Contents (Elt Ideal)) (p : Fin 136) (z : Fin 1) :
    column (F := Ideal) a (ix2 p z) = a (ix1 p) := by
  refine (broadcastInDim_apply _ _ _ _ (ix1 p) fun b => ?_).trans ?_
  · match b with | ⟨0, _⟩ => rfl
  · rw [select_apply]
    exact if_neg (by show ¬ (0#1 : BitVec 1) = 1#1; decide)

/-- The first column of two. -/
theorem pairs_left (a b : (⟨S136, .i32⟩ : BufTy).Contents (Elt Ideal)) (p : Fin 136) : pairs (F := Ideal) a b (ix2 p 0) = a (ix1 p) := by
  refine (concatenate_pair_apply_left (t := S136x2) (s₁ := S136x1) (s₂ := S136x1) 1 _ _ _ (ix2 p 0) rfl (ix2 p 0) fun b => ?_).trans (column_apply a p 0)
  match b with | ⟨0, _⟩ => rfl | ⟨1, _⟩ => rfl

/-- The second column of two. -/
theorem pairs_right (a b : (⟨S136, .i32⟩ : BufTy).Contents (Elt Ideal)) (p : Fin 136) : pairs (F := Ideal) a b (ix2 p 1) = b (ix1 p) := by
  refine (concatenate_pair_apply_right (t := S136x2) (s₁ := S136x1) (s₂ := S136x1) 1 _ _ _ (ix2 p 1) rfl rfl (ix2 p 0) (fun b hb => ?_) rfl).trans
    (column_apply b p 0)
  match b with | ⟨0, _⟩ => rfl | ⟨1, _⟩ => exact absurd rfl hb

/-- The first rows as naturals. -/
theorem rowsI_apply (p : Fin 136) : (rowsI (F := Ideal) (ix1 p) : BitVec 32).toInt.toNat = (rowI p).val := by
  have : S136.rowMajor (ix1 p) = p := Fin.ext (Shape.rowMajor_val_one _)
  show (lit0 (S136.rowMajor (ix1 p))).toInt.toNat = _
  rw [this, lit0_eq]

/-- The second rows as naturals. -/
theorem rowsJ_apply (p : Fin 136) : (rowsJ (F := Ideal) (ix1 p) : BitVec 32).toInt.toNat = (rowJ p).val := by
  have : S136.rowMajor (ix1 p) = p := Fin.ext (Shape.rowMajor_val_one _)
  show (lit1 (S136.rowMajor (ix1 p))).toInt.toNat = _
  rw [this, lit1_eq]

/-! ## The gathers -/

/-- The gather of cubic coefficients at a pair. -/
theorem gather3_apply (x : (⟨S16x16x16x23, .f32⟩ : BufTy).Contents (Elt Ideal)) (idx : (⟨S136x2, .i32⟩ : BufTy).Contents (Elt Ideal))
    (p : Fin 136) (i j : Fin 16) (hi : (idx (ix2 p 0) : BitVec 32).toInt.toNat = i.val) (hj : (idx (ix2 p 1) : BitVec 32).toInt.toNat = j.val)
    (k : Fin 16) (l : Fin 23) :
    Host.gather gather_S16x16x16x23_S136x2_S136x16x23_12_01_n_n_01_1_111623 x idx (ix3 p k l) = x (ix4 i j k l) := by
  let G := gather_S16x16x16x23_S136x2_S136x16x23_12_01_n_n_01_1_111623
  have s0 : G.start (ix3 p k l) idx 0 = i.val := by
    have hsi : G.siIdx (ix3 p k l) ⟨List.idxOf (0 : Fin 4) G.startIndexMap, List.idxOf_lt_length_iff.2 (by decide)⟩ = ix2 p 0 := by
      funext b; match b with | ⟨0, _⟩ => rfl | ⟨1, _⟩ => rfl
    unfold GatherDims.start
    rw [dif_pos (show (0 : Fin 4) ∈ G.startIndexMap by decide), hsi, hi]
    exact Nat.min_eq_left (by show i.val ≤ 15; omega)
  have s1 : G.start (ix3 p k l) idx 1 = j.val := by
    have hsi : G.siIdx (ix3 p k l) ⟨List.idxOf (1 : Fin 4) G.startIndexMap, List.idxOf_lt_length_iff.2 (by decide)⟩ = ix2 p 1 := by
      funext b; match b with | ⟨0, _⟩ => rfl | ⟨1, _⟩ => rfl
    unfold GatherDims.start
    rw [dif_pos (show (1 : Fin 4) ∈ G.startIndexMap by decide), hsi, hj]
    exact Nat.min_eq_left (by show j.val ≤ 15; omega)
  have o0 : G.offCoord (ix3 p k l) 0 = 0 := GatherDims.offCoord_eq_zero _ _ _ (by decide)
  have o1 : G.offCoord (ix3 p k l) 1 = 0 := GatherDims.offCoord_eq_zero _ _ _ (by decide)
  unfold Host.gather
  refine congrArg x (funext fun a => Fin.ext ?_)
  show G.start (ix3 p k l) idx a + G.batchCoord (ix3 p k l) a + G.offCoord (ix3 p k l) a = _
  rw [GatherDims.batchCoord_eq_zero _ _ _ List.not_mem_nil, Nat.add_zero]
  match a with
  | ⟨0, _⟩ => exact congrArg₂ (· + ·) s0 o0
  | ⟨1, _⟩ => exact congrArg₂ (· + ·) s1 o1
  | ⟨2, _⟩ => exact Nat.zero_add _
  | ⟨3, _⟩ => exact Nat.zero_add _

/-- The gather of quadratic coefficients at a pair. -/
theorem gather2_apply (x : (⟨S16x16x4, .f32⟩ : BufTy).Contents (Elt Ideal)) (idx : (⟨S136x2, .i32⟩ : BufTy).Contents (Elt Ideal))
    (p : Fin 136) (i j : Fin 16) (hi : (idx (ix2 p 0) : BitVec 32).toInt.toNat = i.val) (hj : (idx (ix2 p 1) : BitVec 32).toInt.toNat = j.val)
    (l : Fin 4) :
    Host.gather gather_S16x16x4_S136x2_S136x4_1_01_n_n_01_1_114 x idx (ix2 p l) = x (ix3 i j l) := by
  let G := gather_S16x16x4_S136x2_S136x4_1_01_n_n_01_1_114
  have s0 : G.start (ix2 p l) idx 0 = i.val := by
    have hsi : G.siIdx (ix2 p l) ⟨List.idxOf (0 : Fin 3) G.startIndexMap, List.idxOf_lt_length_iff.2 (by decide)⟩ = ix2 p 0 := by
      funext b; match b with | ⟨0, _⟩ => rfl | ⟨1, _⟩ => rfl
    unfold GatherDims.start
    rw [dif_pos (show (0 : Fin 3) ∈ G.startIndexMap by decide), hsi, hi]
    exact Nat.min_eq_left (by show i.val ≤ 15; omega)
  have s1 : G.start (ix2 p l) idx 1 = j.val := by
    have hsi : G.siIdx (ix2 p l) ⟨List.idxOf (1 : Fin 3) G.startIndexMap, List.idxOf_lt_length_iff.2 (by decide)⟩ = ix2 p 1 := by
      funext b; match b with | ⟨0, _⟩ => rfl | ⟨1, _⟩ => rfl
    unfold GatherDims.start
    rw [dif_pos (show (1 : Fin 3) ∈ G.startIndexMap by decide), hsi, hj]
    exact Nat.min_eq_left (by show j.val ≤ 15; omega)
  have o0 : G.offCoord (ix2 p l) 0 = 0 := GatherDims.offCoord_eq_zero _ _ _ (by decide)
  have o1 : G.offCoord (ix2 p l) 1 = 0 := GatherDims.offCoord_eq_zero _ _ _ (by decide)
  unfold Host.gather
  refine congrArg x (funext fun a => Fin.ext ?_)
  show G.start (ix2 p l) idx a + G.batchCoord (ix2 p l) a + G.offCoord (ix2 p l) a = _
  rw [GatherDims.batchCoord_eq_zero _ _ _ List.not_mem_nil, Nat.add_zero]
  match a with
  | ⟨0, _⟩ => exact congrArg₂ (· + ·) s0 o0
  | ⟨1, _⟩ => exact congrArg₂ (· + ·) s1 o1
  | ⟨2, _⟩ => exact Nat.zero_add _

/-! ## The six planes -/

/-- A plane at third row `k` of pair `p`. -/
theorem plane_apply (x : (⟨S16x16x16x23, .f32⟩ : BufTy).Contents (Elt Ideal)) (z : Fin 1) (k : Fin 16) (p : Fin 136) (l : Fin 23) :
    plane x (ix4 z k p l) = x (ix4 (rowI p) (rowJ p) k l) := by
  refine (broadcastInDim_apply _ _ _ _ (ix3 k p l) fun b => ?_).trans ?_
  · match b with | ⟨0, _⟩ => rfl | ⟨1, _⟩ => rfl | ⟨2, _⟩ => rfl
  refine (transpose_apply _ _ _ _ (ix3 p k l) fun b => ?_).trans ?_
  · match b with | ⟨0, _⟩ => rfl | ⟨1, _⟩ => rfl | ⟨2, _⟩ => rfl
  refine gather3_apply x _ p (rowI p) (rowJ p) ?_ ?_ k l
  · rw [pairs_left, rowsI_apply]
  · rw [pairs_right, rowsJ_apply]

/-- A stack of six planes at plane `q`, third row `k`, pair `p`. -/
theorem stack_apply (v : Fin 6 → (⟨S1x16x136x23, .f32⟩ : BufTy).Contents (Elt Ideal)) (q : Fin 6) (k : Fin 16) (p : Fin 136) (l : Fin 23) :
    shapeCast S6x2176x23 (concatenate S6x16x136x23 0
      [⟨S1x16x136x23, v 0⟩, ⟨S1x16x136x23, v 1⟩, ⟨S1x16x136x23, v 2⟩, ⟨S1x16x136x23, v 3⟩, ⟨S1x16x136x23, v 4⟩, ⟨S1x16x136x23, v 5⟩]
      concatenates_S1x16x136x23_S1x16x136x23_S1x16x136x23_S1x16x136x23_S1x16x136x23_S1x16x136x23_S6x16x136x23_d0)
      shapeCasts_S6x16x136x23_S6x2176x23 (ix3 q (at3 k p) l) = v q (ix4 0 k p l) := by
  refine (shapeCast_apply _ _ _ (ix4 q k p l) ?_).trans ?_
  · rw [Shape.rowMajor_val_four, Shape.rowMajor_val_three]
    show ((q.val * 16 + k.val) * 136 + p.val) * 23 + l.val = (q.val * 2176 + (136 * k.val + p.val)) * 23 + l.val
    omega
  have hi : ∀ b : Fin 4, b ≠ 0 → ((ix4 (0 : Fin 1) k p l : S1x16x136x23.Idx) b).val = ((ix4 q k p l : S6x16x136x23.Idx) b).val := by
    intro b hb
    match b with | ⟨0, _⟩ => exact absurd rfl hb | ⟨1, _⟩ => rfl | ⟨2, _⟩ => rfl | ⟨3, _⟩ => rfl
  match q with
  | ⟨0, _⟩ => exact concatenate_apply_piece (t := S6x16x136x23) 0 _ _ _ 0 (by simp) S1x16x136x23 (v 0) rfl rfl 0 rfl (ix4 0 k p l) hi rfl
  | ⟨1, _⟩ => exact concatenate_apply_piece (t := S6x16x136x23) 0 _ _ _ 1 (by simp) S1x16x136x23 (v 1) rfl rfl 1 rfl (ix4 0 k p l) hi rfl
  | ⟨2, _⟩ => exact concatenate_apply_piece (t := S6x16x136x23) 0 _ _ _ 2 (by simp) S1x16x136x23 (v 2) rfl rfl 2 rfl (ix4 0 k p l) hi rfl
  | ⟨3, _⟩ => exact concatenate_apply_piece (t := S6x16x136x23) 0 _ _ _ 3 (by simp) S1x16x136x23 (v 3) rfl rfl 3 rfl (ix4 0 k p l) hi rfl
  | ⟨4, _⟩ => exact concatenate_apply_piece (t := S6x16x136x23) 0 _ _ _ 4 (by simp) S1x16x136x23 (v 4) rfl rfl 4 rfl (ix4 0 k p l) hi rfl
  | ⟨5, _⟩ => exact concatenate_apply_piece (t := S6x16x136x23) 0 _ _ _ 5 (by simp) S1x16x136x23 (v 5) rfl rfl 5 rfl (ix4 0 k p l) hi rfl

/-- The six planes at third row `k` of pair `p`: the coefficient at the six orders of the three rows. -/
theorem planes_apply (x : (⟨S16x16x16x23, .f32⟩ : BufTy).Contents (Elt Ideal)) (q : Fin 6) (k : Fin 16) (p : Fin 136) (l : Fin 23) :
    planes x (ix3 q (at3 k p) l)
      = (![x (ix4 (rowI p) (rowJ p) k l), x (ix4 (rowI p) k (rowJ p) l), x (ix4 (rowJ p) (rowI p) k l), x (ix4 k (rowI p) (rowJ p) l),
          x (ix4 (rowJ p) k (rowI p) l), x (ix4 k (rowJ p) (rowI p) l)] : Fin 6 → EReal) q := by
  refine (stack_apply ![_, _, _, _, _, _] q k p l).trans ?_
  match q with
  | ⟨0, _⟩ => exact plane_apply _ 0 k p l
  | ⟨1, _⟩ =>
    exact (plane_apply _ 0 k p l).trans (transpose_apply _ _ _ _ (ix4 (rowI p) k (rowJ p) l) fun b => by
      match b with | ⟨0, _⟩ => rfl | ⟨1, _⟩ => rfl | ⟨2, _⟩ => rfl | ⟨3, _⟩ => rfl)
  | ⟨2, _⟩ =>
    exact (plane_apply _ 0 k p l).trans (transpose_apply _ _ _ _ (ix4 (rowJ p) (rowI p) k l) fun b => by
      match b with | ⟨0, _⟩ => rfl | ⟨1, _⟩ => rfl | ⟨2, _⟩ => rfl | ⟨3, _⟩ => rfl)
  | ⟨3, _⟩ =>
    exact (plane_apply _ 0 k p l).trans (transpose_apply _ _ _ _ (ix4 k (rowI p) (rowJ p) l) fun b => by
      match b with | ⟨0, _⟩ => rfl | ⟨1, _⟩ => rfl | ⟨2, _⟩ => rfl | ⟨3, _⟩ => rfl)
  | ⟨4, _⟩ =>
    exact (plane_apply _ 0 k p l).trans (transpose_apply _ _ _ _ (ix4 (rowJ p) k (rowI p) l) fun b => by
      match b with | ⟨0, _⟩ => rfl | ⟨1, _⟩ => rfl | ⟨2, _⟩ => rfl | ⟨3, _⟩ => rfl)
  | ⟨5, _⟩ =>
    exact (plane_apply _ 0 k p l).trans (transpose_apply _ _ _ _ (ix4 k (rowJ p) (rowI p) l) fun b => by
      match b with | ⟨0, _⟩ => rfl | ⟨1, _⟩ => rfl | ⟨2, _⟩ => rfl | ⟨3, _⟩ => rfl)

/-! ## The scale factors -/

/-- The share of each order of three rows: one over how many of the six orders agree, for rows `i ≤ j ≤ k`. -/
def share (i j k : Fin 16) : ℝ := if j ≤ k then (if i = j ∧ j = k then 1 / 6 else if i = j ∨ j = k then 1 / 2 else 1) else 0

/-- The float word of 6. -/
theorem word_six : Ideal.ofBits .f32 0x40C00000#32 = ((6 : ℝ) : EReal) := by
  simp [Ideal.ofBits, Ideal.ieee, -EReal.coe_mul]; norm_num
/-- The float word of 2. -/
theorem word_two : Ideal.ofBits .f32 0x40000000#32 = ((2 : ℝ) : EReal) := by
  simp [Ideal.ofBits, Ideal.ieee, -EReal.coe_mul]; norm_num
/-- The float word of one half. -/
theorem word_half : Ideal.ofBits .f32 0x3F000000#32 = (((1 : ℝ) / 2 : ℝ) : EReal) := by
  simp [Ideal.ofBits, Ideal.ieee, -EReal.coe_mul]; norm_num
/-- The float word of 1. -/
theorem word_one : Ideal.ofBits .f32 0x3F800000#32 = ((1 : ℝ) : EReal) := by
  rw [Ideal.ofBits_one_f32]; rfl
/-- The float word of 0. -/
theorem word_zero : Ideal.ofBits .f32 0x00000000#32 = ((0 : ℝ) : EReal) := by
  rw [Ideal.ofBits_zero_f32]; rfl

/-- A quotient of reals, the divisor not zero. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The scale factor at third row `k` of pair `p`. -/
theorem scales_apply (k : Fin 16) (p : Fin 136) (z : Fin 1) : scales (F := Ideal) (ix2 (at3 k p) z) = ((share (rowI p) (rowJ p) k : ℝ) : EReal) := by
  have hr : S2176x1.rowMajor (ix2 (at3 k p) z) = at3 k p := Fin.ext (by
    rw [Shape.rowMajor_val_two]; show (136 * k.val + p.val) * 1 + z.val = 136 * k.val + p.val; omega)
  show Ideal.div (Ideal.ofBits .f32 (lit2 (S2176x1.rowMajor (ix2 (at3 k p) z)))) (Ideal.ofBits .f32 (lit3 (S2176x1.rowMajor (ix2 (at3 k p) z)))) = _
  rw [hr, lit2_eq, lit3_eq]
  unfold share
  split_ifs <;> simp only [word_six, word_two, word_one, word_zero] <;> rw [div_coe _ _ (by norm_num)] <;> norm_num

/-! ## The quadratic coefficients and the selections -/

/-- The factor of a pair: one half on the diagonal. -/
def weight (i j : Fin 16) : ℝ := if i = j then 1 / 2 else 1

/-- The quadratic coefficients at pair `p`. -/
theorem quads_apply (x : (⟨S16x16x4, .f32⟩ : BufTy).Contents (Elt Ideal)) (p : Fin 136) (l : Fin 4) :
    quads x (ix2 p l) = ((x (ix3 (rowI p) (rowJ p) l) : EReal) + x (ix3 (rowJ p) (rowI p) l)) * ((weight (rowI p) (rowJ p) : ℝ) : EReal) := by
  unfold quads
  rw [mulf_apply, addf_apply, gather2_apply x _ p (rowI p) (rowJ p) (by rw [pairs_left, rowsI_apply]) (by rw [pairs_right, rowsJ_apply]),
    gather2_apply x _ p (rowJ p) (rowI p) (by rw [pairs_left, rowsJ_apply]) (by rw [pairs_right, rowsI_apply])]
  refine congrArg (fun y : EReal => ((x (ix3 (rowI p) (rowJ p) l) : EReal) + x (ix3 (rowJ p) (rowI p) l)) * y) ?_
  refine (broadcastInDim_apply _ _ _ _ (ix2 p 0) fun b => ?_).trans ?_
  · match b with | ⟨0, _⟩ => rfl | ⟨1, _⟩ => rfl
  have hr : S136x1.rowMajor (ix2 p 0) = p := Fin.ext (by
    rw [Shape.rowMajor_val_two]; show p.val * 1 + 0 = p.val; omega)
  show Ideal.ofBits .f32 (lit4 (S136x1.rowMajor (ix2 p 0))) = _
  rw [hr, lit4_eq]
  unfold weight
  split_ifs
  · exact word_half
  · exact word_one

/-- The first selection table. -/
theorem pickI_apply (p : Fin 136) (l : Fin 16) : pickI (F := Ideal) (ix2 p l) = if l = rowI p then 1 else 0 := by
  have hr : S136x16.rowMajor (ix2 p l) = at2 p l := Fin.ext (by
    rw [Shape.rowMajor_val_two]; show p.val * 16 + l.val = 16 * p.val + l.val; omega)
  show Ideal.ofBits .f32 (lit5 (S136x16.rowMajor (ix2 p l))) = _
  rw [hr, lit5_eq]
  split_ifs
  · exact Ideal.ofBits_one_f32
  · exact Ideal.ofBits_zero_f32

/-- The second selection table. -/
theorem pickJ_apply (p : Fin 136) (l : Fin 16) : pickJ (F := Ideal) (ix2 p l) = if l = rowJ p then 1 else 0 := by
  have hr : S136x16.rowMajor (ix2 p l) = at2 p l := Fin.ext (by
    rw [Shape.rowMajor_val_two]; show p.val * 16 + l.val = 16 * p.val + l.val; omega)
  show Ideal.ofBits .f32 (lit6 (S136x16.rowMajor (ix2 p l))) = _
  rw [hr, lit6_eq]
  split_ifs
  · exact Ideal.ofBits_one_f32
  · exact Ideal.ofBits_zero_f32

end Cert.KernelIdeal.Prefix
-- ==== Proof.Value.Sums.lean ====
module

public import proofs.«01_k».proof.Proof.Value.Host

/-! The identity over the reals: the symmetrised sums over ordered rows are the plain sums over all rows. -/

@[expose] public section

noncomputable section

namespace Cert.KernelIdeal.Sums

open Cert.KernelIdeal.Prefix
open scoped BigOperators

/-- The pairs run over all rows `i ≤ j` once. -/
theorem sum_pairs (f : Fin 16 → Fin 16 → ℝ) : ∑ p : Fin 136, f (rowI p) (rowJ p) = ∑ i, ∑ j, if i ≤ j then f i j else 0 := by
  rw [← Fintype.sum_prod_type' (f := fun i j => if i ≤ j then f i j else 0), ← Finset.sum_filter, ← rows_image, Finset.sum_image]
  exact fun p _ q _ h => rows_injective p q (congrArg Prod.fst h) (congrArg Prod.snd h)

/-- A triple sum, its last two rows exchanged. -/
theorem swap_last (f : Fin 16 → Fin 16 → Fin 16 → ℝ) : ∑ i, ∑ j, ∑ k, f i k j = ∑ i, ∑ j, ∑ k, f i j k :=
  Finset.sum_congr rfl fun i _ => Finset.sum_comm

/-- A triple sum, its first two rows exchanged. -/
theorem swap_first (f : Fin 16 → Fin 16 → Fin 16 → ℝ) : ∑ i, ∑ j, ∑ k, f j i k = ∑ i, ∑ j, ∑ k, f i j k := Finset.sum_comm

/-- A triple sum, its rows turned round. -/
theorem rotate (f : Fin 16 → Fin 16 → Fin 16 → ℝ) : ∑ i, ∑ j, ∑ k, f k i j = ∑ i, ∑ j, ∑ k, f i j k :=
  (swap_last fun i j k => f j i k).trans (swap_first f)

/-- A triple sum, its rows turned round the other way. -/
theorem rotate' (f : Fin 16 → Fin 16 → Fin 16 → ℝ) : ∑ i, ∑ j, ∑ k, f j k i = ∑ i, ∑ j, ∑ k, f i j k :=
  (swap_first fun i j k => f i k j).trans (swap_last f)

/-- A triple sum, its rows reversed. -/
theorem reverse (f : Fin 16 → Fin 16 → Fin 16 → ℝ) : ∑ i, ∑ j, ∑ k, f k j i = ∑ i, ∑ j, ∑ k, f i j k :=
  (swap_first fun i j k => f k i j).trans (rotate f)

/-- The share of an order of three rows, zero unless the order is non-decreasing. -/
def part (i j k : Fin 16) : ℝ := if i ≤ j then share i j k else 0

/-- The six orders of three rows share one. -/
theorem part_sum (i j k : Fin 16) : part i j k + part i k j + part j i k + part j k i + part k i j + part k j i = 1 := by
  unfold part share
  rcases lt_trichotomy i j with h1 | h1 | h1 <;> rcases lt_trichotomy j k with h2 | h2 | h2 <;> rcases lt_trichotomy i k with h3 | h3 | h3 <;>
    first
    | (exfalso; omega)
    | (subst_vars; simp [h1.le, h1.not_ge, h1.ne, h1.ne', h2.le, h2.not_ge, h2.ne, h2.ne', h3.le, h3.not_ge, h3.ne, h3.ne']; done)
    | (subst_vars; norm_num [*, le_of_lt, not_le_of_gt, ne_of_lt, ne_of_gt])

/-- The cubic part. -/
theorem cubic (C : Fin 16 → Fin 16 → Fin 16 → ℝ) (x : Fin 16 → ℝ) :
    ∑ p : Fin 136, (∑ k, (C (rowI p) (rowJ p) k + C (rowI p) k (rowJ p) + C (rowJ p) (rowI p) k + C k (rowI p) (rowJ p) + C (rowJ p) k (rowI p)
      + C k (rowJ p) (rowI p)) * share (rowI p) (rowJ p) k * x k) * x (rowI p) * x (rowJ p)
      = ∑ i, ∑ j, ∑ k, C i j k * (x i * x j * x k) := by
  rw [sum_pairs fun i j => (∑ k, (C i j k + C i k j + C j i k + C k i j + C j k i + C k j i) * share i j k * x k) * x i * x j]
  have h0 : ∀ i j : Fin 16, (if i ≤ j then (∑ k, (C i j k + C i k j + C j i k + C k i j + C j k i + C k j i) * share i j k * x k) * x i * x j else 0)
      = ∑ k, (C i j k * (part i j k * (x i * x j * x k)) + C i k j * (part i j k * (x i * x j * x k)) + C j i k * (part i j k * (x i * x j * x k))
        + C k i j * (part i j k * (x i * x j * x k)) + C j k i * (part i j k * (x i * x j * x k)) + C k j i * (part i j k * (x i * x j * x k))) := by
    intro i j
    unfold part
    split_ifs with h
    · rw [Finset.sum_mul, Finset.sum_mul]
      exact Finset.sum_congr rfl fun k _ => by ring
    · simp
  simp only [h0, Finset.sum_add_distrib]
  rw [swap_last fun i j k => C i j k * (part i k j * (x i * x k * x j)), swap_first fun i j k => C i j k * (part j i k * (x j * x i * x k)),
    rotate fun i j k => C i j k * (part j k i * (x j * x k * x i)), rotate' fun i j k => C i j k * (part k i j * (x k * x i * x j)),
    reverse fun i j k => C i j k * (part k j i * (x k * x j * x i))]
  simp only [← Finset.sum_add_distrib]
  refine Finset.sum_congr rfl fun i _ => Finset.sum_congr rfl fun j _ => Finset.sum_congr rfl fun k _ => ?_
  linear_combination (C i j k * (x i * x j * x k)) * part_sum i j k

/-- The share of an order of two rows, zero unless the order is non-decreasing. -/
def half (i j : Fin 16) : ℝ := if i ≤ j then weight i j else 0

/-- The two orders of two rows share one. -/
theorem half_sum (i j : Fin 16) : half i j + half j i = 1 := by
  unfold half weight
  rcases lt_trichotomy i j with h1 | h1 | h1
  · simp [h1.le, h1.not_ge, h1.ne]
  · subst h1; norm_num
  · simp [h1.le, h1.not_ge, h1.ne]

/-- The quadratic part. -/
theorem quadratic (Q : Fin 16 → Fin 16 → ℝ) (x : Fin 16 → ℝ) :
    ∑ p : Fin 136, (Q (rowI p) (rowJ p) + Q (rowJ p) (rowI p)) * weight (rowI p) (rowJ p) * x (rowI p) * x (rowJ p)
      = ∑ i, ∑ j, Q i j * (x i * x j) := by
  rw [sum_pairs fun i j => (Q i j + Q j i) * weight i j * x i * x j]
  have h0 : ∀ i j : Fin 16, (if i ≤ j then (Q i j + Q j i) * weight i j * x i * x j else 0)
      = Q i j * (half i j * (x i * x j)) + Q j i * (half i j * (x i * x j)) := by
    intro i j
    unfold half
    split_ifs with h
    · ring
    · simp
  simp only [h0, Finset.sum_add_distrib]
  rw [Finset.sum_comm (f := fun i j => Q j i * (half i j * (x i * x j)))]
  simp only [← Finset.sum_add_distrib]
  refine Finset.sum_congr rfl fun i _ => Finset.sum_congr rfl fun j _ => ?_
  linear_combination (Q i j * (x i * x j)) * half_sum i j

/-- Both parts, as the reference nests them. -/
theorem total (C : Fin 16 → Fin 16 → Fin 16 → ℝ) (Q : Fin 16 → Fin 16 → ℝ) (x : Fin 16 → ℝ) :
    ∑ p : Fin 136, ((Q (rowI p) (rowJ p) + Q (rowJ p) (rowI p)) * weight (rowI p) (rowJ p)
      + ∑ k, (C (rowI p) (rowJ p) k + C (rowI p) k (rowJ p) + C (rowJ p) (rowI p) k + C k (rowI p) (rowJ p) + C (rowJ p) k (rowI p)
      + C k (rowJ p) (rowI p)) * share (rowI p) (rowJ p) k * x k) * x (rowI p) * x (rowJ p)
      = ∑ i, (∑ j, x j * (Q i j + ∑ k, x k * C i j k)) * x i := by
  simp only [add_mul (_ * weight _ _) (∑ k, _) _, add_mul (_ * weight _ _ * _), Finset.sum_add_distrib]
  rw [cubic, quadratic, ← Finset.sum_add_distrib]
  refine Finset.sum_congr rfl fun i _ => ?_
  rw [← Finset.sum_add_distrib, Finset.sum_mul]
  refine Finset.sum_congr rfl fun j _ => ?_
  rw [mul_add, add_mul, Finset.mul_sum, Finset.sum_mul]
  refine congrArg₂ (· + ·) (by ring) (Finset.sum_congr rfl fun k _ => by ring)

end Cert.KernelIdeal.Sums
-- ==== Proof.Value.Tables.lean ====
module

public import proofs.«01_k».proof.Proof.Ideal.Tables
public import Idealize.ShloMosaic.Lib.MatmulPlain
public import Idealize.ShloMosaic.Lib.ValueIdx
public import Idealize.ShloMosaic.Lib.Pipeline.Value

/-! The three coefficient tables over the extended reals, entry by entry. -/

@[expose] public section

set_option maxRecDepth 16384

noncomputable section

namespace Cert.KernelIdeal.Tables

open Cert.KernelIdeal.Gen
open Idealize.ShloMosaic Idealize.ShloMosaic.TcCoe Idealize.ShloMosaic.ValueIdx
open scoped BigOperators

/-- One plane of the six, with its leading unit axis dropped. -/
theorem plane_apply (g : Vec Ideal S6x2176x23 .f32) (p : Fin 6) (r : Fin 2176) (l : Fin 23) :
    shapeCast S2176x23 (View.ld g (permRect p)) shapeCasts_S1x2176x23_S2176x23 (ix2 r l) = g (ix3 p r l) := by
  refine (shapeCast_dropUnit_apply ![2176, 23] _ _ _).trans (congrArg g (funext fun a => Fin.ext ?_))
  match a with
  | ⟨0, _⟩ => show p.val + 1 * 0 = p.val; omega
  | ⟨1, _⟩ => show 0 + 1 * r.val = r.val; omega
  | ⟨2, _⟩ => show 0 + 1 * l.val = l.val; omega

/-- The scaled sum of the six planes at an entry. -/
theorem scaled_apply (g : Vec Ideal S6x2176x23 .f32) (sc : Vec Ideal S2176x1 .f32) (r : Fin 2176) (l : Fin 23) :
    scaled g sc (ix2 r l)
      = (g (ix3 0 r l) + g (ix3 1 r l) + g (ix3 2 r l) + g (ix3 3 r l) + g (ix3 4 r l) + g (ix3 5 r l)) * sc (ix2 r 0) := by
  have hs : broadcastTo S2176x23 (shapeCast S2176x1 (View.ld sc scaleRect) shapeCasts_S2176x1_S2176x1) broadcasts_S2176x1_S2176x23 (ix2 r l)
      = sc (ix2 r 0) := by
    refine (broadcastTo_apply _ _ _ (ix2 r 0) ?_).trans ?_
    · intro a; match a with
      | ⟨0, _⟩ => rfl
      | ⟨1, _⟩ => rfl
    · refine (shapeCast_apply _ _ _ (ix2 r 0) rfl).trans ?_
      rw [View.ld_unit_zero (by funext a; match a with | ⟨0, _⟩ => rfl | ⟨1, _⟩ => rfl)]
  unfold scaled k0_pay2
  simp only [mulf_apply, addf_apply]
  erw [hs, plane_apply g 0, plane_apply g 1, plane_apply g 2, plane_apply g 3, plane_apply g 4, plane_apply g 5]

/-- A product of matrices accumulated into zero, stored with a leading unit axis. -/
theorem product_apply {M K N : ℕ} (x : FVec Ideal ⟨2, ![M, K]⟩ .f32) (w : FVec Ideal ⟨3, ![1, K, N]⟩ .f32)
    (h : (⟨3, ![1, K, N]⟩ : Shape).ShapeCasts ⟨2, ![K, N]⟩) (h' : (⟨2, ![M, N]⟩ : Shape).ShapeCasts ⟨3, ![1, M, N]⟩)
    (z : Fin 1) (r : Fin M) (c : Fin N) :
    shapeCast ⟨3, ![1, M, N]⟩ (FloatOps.matmul (DotDims.plain M K N) none x (shapeCast ⟨2, ![K, N]⟩ w h)
        (constant (F := Ideal) ⟨2, ![M, N]⟩ .f32 0x00000000#32)) h' (ix3 z r c)
      = ∑ l : Fin K, x (ix2 r l) * w (ix3 0 l c) := by
  refine (shapeCast_addUnit_apply ![M, N] _ _ _).trans ?_
  have e : (fun a : Fin 2 => (ix3 z r c : (⟨3, ![1, M, N]⟩ : Shape).Idx) a.succ) = (ix2 r c : (⟨2, ![M, N]⟩ : Shape).Idx) := by
    funext a; match a with | ⟨0, _⟩ => rfl | ⟨1, _⟩ => rfl
  refine (congrArg _ e).trans ?_
  rw [Ideal.matmul_plain_apply, constant_apply]
  have z0 : Ideal.ofBits .f32 0x00000000#32 = 0 := by simp
  rw [z0, zero_add]
  refine Finset.sum_congr rfl fun l _ => congrArg (x (ix2 r l) * ·) ?_
  refine (shapeCast_dropUnit_apply ![K, N] _ _ _).trans (congrArg w (funext fun a => ?_))
  match a with | ⟨0, _⟩ => rfl | ⟨1, _⟩ => rfl | ⟨2, _⟩ => rfl

/-- Element `e`'s block of a weight array, read at its own row. -/
theorem ld_block {E K N : ℕ} (w : Vec Ideal ⟨3, ![E, K, N]⟩ .f32) (e : Fin E)
    (h : ∀ a, (![e.val, 0, 0] : Fin 3 → ℕ) a + (⟨3, ![1, K, N]⟩ : Shape).size a ≤ (⟨3, ![E, K, N]⟩ : Shape).size a)
    (z : Fin 1) (l : Fin K) (c : Fin N) :
    View.ld w (Rect.unit (s := ⟨3, ![E, K, N]⟩) ![e.val, 0, 0] (⟨3, ![1, K, N]⟩ : Shape).size h) (ix3 z l c) = w (ix3 e l c) := by
  refine congrArg w (funext fun a => Fin.ext ?_)
  match a with
  | ⟨0, _⟩ => show e.val + 1 * z.val = e.val; omega
  | ⟨1, _⟩ => show 0 + 1 * l.val = l.val; omega
  | ⟨2, _⟩ => show 0 + 1 * c.val = c.val; omega

/-- A block of the cubic table at an entry. -/
theorem block3_apply (g : Vec Ideal S6x2176x23 .f32) (sc : Vec Ideal S2176x1 .f32) (w3 : Vec Ideal S3x23x96 .f32) (e : Fin 3)
    (z : Fin 1) (r : Fin 2176) (c : Fin 96) :
    block3 g sc w3 e (ix3 z r c) = ∑ l : Fin 23, scaled g sc (ix2 r l) * w3 (ix3 e l c) := by
  refine (product_apply (M := 2176) (K := 23) (N := 96) (scaled g sc) (View.ld w3 (w3Rect e)) _ _ z r c).trans ?_
  exact Finset.sum_congr rfl fun l _ => congrArg (scaled g sc (ix2 r l) * ·) (ld_block w3 e _ 0 l c)

/-- A block of the quadratic table at an entry. -/
theorem block2_apply (u2 : Vec Ideal S136x4 .f32) (w2 : Vec Ideal S3x4x96 .f32) (e : Fin 3) (z : Fin 1) (r : Fin 136) (c : Fin 96) :
    block2 u2 w2 e (ix3 z r c) = ∑ l : Fin 4, u2 (ix2 r l) * w2 (ix3 e l c) := by
  refine (product_apply (M := 136) (K := 4) (N := 96) (k0_pay4 (View.ld u2 quadRect)) (View.ld w2 (w2Rect e)) _ _ z r c).trans ?_
  refine Finset.sum_congr rfl fun l _ => congrArg₂ (· * ·) ?_ (ld_block w2 e _ 0 l c)
  unfold k0_pay4
  refine (shapeCast_apply _ _ _ (ix2 r l) rfl).trans ?_
  rw [View.ld_unit_zero (by funext a; match a with | ⟨0, _⟩ => rfl | ⟨1, _⟩ => rfl)]

/-- A block of the linear table at an entry. -/
theorem block1_apply (u1 : Vec Ideal S16x1 .f32) (w1 : Vec Ideal S3x1x96 .f32) (e : Fin 3) (z : Fin 1) (r : Fin 16) (c : Fin 96) :
    block1 u1 w1 e (ix3 z r c) = u1 (ix2 r 0) * w1 (ix3 e 0 c) := by
  refine (product_apply (M := 16) (K := 1) (N := 96) (View.ld u1 linRect) (View.ld w1 (w1Rect e)) _ _ z r c).trans ?_
  rw [Fin.sum_univ_one, View.ld_unit_zero (by funext a; match a with | ⟨0, _⟩ => rfl | ⟨1, _⟩ => rfl)]
  exact congrArg (u1 (ix2 r 0) * ·) (ld_block w1 e _ 0 0 c)

/-- A table of three blocks, all read off one function of the entry, is that function. -/
theorem table_apply {M N : ℕ} (G : Fin 3 → Fin M → Fin N → EReal)
    (b : Fin 3 → Vec Ideal ⟨3, ![1, M, N]⟩ .f32)
    (h : ∀ e : Fin 3, ∀ a, (![e.val, 0, 0] : Fin 3 → ℕ) a + (⟨3, ![1, M, N]⟩ : Shape).size a ≤ (⟨3, ![3, M, N]⟩ : Shape).size a)
    (hb : ∀ e z r c, b e (ix3 z r c) = G e r c) (e : Fin 3) (r : Fin M) (c : Fin N) :
    View.canon (Val := Elt Ideal) (s := ⟨3, ![3, M, N]⟩) (e := .f32)
      [⟨Rect.unit (s := ⟨3, ![3, M, N]⟩) ![2, 0, 0] (⟨3, ![1, M, N]⟩ : Shape).size (h 2), b 2⟩,
       ⟨Rect.unit (s := ⟨3, ![3, M, N]⟩) ![1, 0, 0] (⟨3, ![1, M, N]⟩ : Shape).size (h 1), b 1⟩,
       ⟨Rect.unit (s := ⟨3, ![3, M, N]⟩) ![0, 0, 0] (⟨3, ![1, M, N]⟩ : Shape).size (h 0), b 0⟩] (ix3 e r c) = G e r c := by
  let H : (⟨3, ![3, M, N]⟩ : Shape).Idx → EReal := fun y => G (y 0) (y 1) (y 2)
  have key : ∀ (e : Fin 3) (x : (⟨3, ![1, M, N]⟩ : Shape).Idx),
      b e x = H ((Rect.unit (s := ⟨3, ![3, M, N]⟩) ![e.val, 0, 0] (⟨3, ![1, M, N]⟩ : Shape).size (h e)).emb x) := by
    intro e x
    conv_lhs => rw [eq_ix3 x]
    refine (hb e _ _ _).trans (congrArg H (funext fun a => Fin.ext ?_) : H (ix3 e (x 1) (x 2)) = _)
    have h0 : (x 0).val < 1 := (x 0).isLt
    match a with
    | ⟨0, _⟩ => show e.val = e.val + 1 * (x 0).val; omega
    | ⟨1, _⟩ => show (x 1).val = 0 + 1 * (x 1).val; omega
    | ⟨2, _⟩ => show (x 2).val = 0 + 1 * (x 2).val; omega
  have mem : ∀ e : Fin 3, (ix3 e r c : (⟨3, ![3, M, N]⟩ : Shape).Idx)
      ∈ (Rect.unit (s := ⟨3, ![3, M, N]⟩) ![e.val, 0, 0] (⟨3, ![1, M, N]⟩ : Shape).size (h e)).set := by
    intro e
    rw [Rect.mem_set_unit]
    intro a
    match a with
    | ⟨0, _⟩ => exact ⟨le_refl _, Nat.lt_succ_self _⟩
    | ⟨1, _⟩ => exact ⟨Nat.zero_le _, by show r.val < 0 + M; omega⟩
    | ⟨2, _⟩ => exact ⟨Nat.zero_le _, by show c.val < 0 + N; omega⟩
  refine View.canon_apply_of_pieces (Val := Elt Ideal) (e := .f32) H _ ?_ _ ?_
  · intro p hp x
    simp only [List.mem_cons, List.not_mem_nil, or_false] at hp
    rcases hp with rfl | rfl | rfl
    · exact key 2 x
    · exact key 1 x
    · exact key 0 x
  · have := mem e
    match e with
    | ⟨0, _⟩ => exact ⟨_, List.mem_cons_of_mem _ (List.mem_cons_of_mem _ List.mem_cons_self), this⟩
    | ⟨1, _⟩ => exact ⟨_, List.mem_cons_of_mem _ List.mem_cons_self, this⟩
    | ⟨2, _⟩ => exact ⟨_, List.mem_cons_self, this⟩

/-- The cubic table at an entry. -/
theorem table3_apply (g : Vec Ideal S6x2176x23 .f32) (sc : Vec Ideal S2176x1 .f32) (w3 : Vec Ideal S3x23x96 .f32)
    (e : Fin 3) (r : Fin 2176) (c : Fin 96) :
    table3 g sc w3 (ix3 e r c) = ∑ l : Fin 23, scaled g sc (ix2 r l) * w3 (ix3 e l c) :=
  table_apply (M := 2176) (N := 96) (fun e r c => ∑ l : Fin 23, scaled g sc (ix2 r l) * w3 (ix3 e l c)) (block3 g sc w3) t3_fits
    (fun e z r c => block3_apply g sc w3 e z r c) e r c

/-- The quadratic table at an entry. -/
theorem table2_apply (u2 : Vec Ideal S136x4 .f32) (w2 : Vec Ideal S3x4x96 .f32) (e : Fin 3) (r : Fin 136) (c : Fin 96) :
    table2 u2 w2 (ix3 e r c) = ∑ l : Fin 4, u2 (ix2 r l) * w2 (ix3 e l c) :=
  table_apply (M := 136) (N := 96) (fun e r c => ∑ l : Fin 4, u2 (ix2 r l) * w2 (ix3 e l c)) (block2 u2 w2) t2_fits
    (fun e z r c => block2_apply u2 w2 e z r c) e r c

/-- The linear table at an entry. -/
theorem table1_apply (u1 : Vec Ideal S16x1 .f32) (w1 : Vec Ideal S3x1x96 .f32) (e : Fin 3) (r : Fin 16) (c : Fin 96) :
    table1 u1 w1 (ix3 e r c) = u1 (ix2 r 0) * w1 (ix3 e 0 c) :=
  table_apply (M := 16) (N := 96) (fun e r c => u1 (ix2 r 0) * w1 (ix3 e 0 c)) (block1 u1 w1) t1_fits
    (fun e z r c => block1_apply u1 w1 e z r c) e r c

end Cert.KernelIdeal.Tables
-- ==== Proof.Value.Arrays.lean ====
module

public import proofs.«01_k».proof.Proof.Value.Atoms
public import proofs.«01_k».proof.Proof.Ideal.Keep
public import Idealize.ShloMosaic.Lib.Pipeline.ValueKit

/-! The arrays the two calls leave, each as one function of the arrays the call reads. -/

@[expose] public section

set_option maxRecDepth 16384

noncomputable section

namespace Cert.KernelIdeal.Arrays

open Cert.KernelIdeal Cert.KernelIdeal.Gen
open Idealize.ShloMosaic hiding ix1 ix2 ix3 ix4 ix5
open Idealize.ShloMosaic.TcCoe Idealize.ShloMosaic.ValueIdx
open scoped BigOperators

variable (V : (c : Dev nD) → Valuation τ sig (Elt Ideal))

/-! ## The first call: every block is a whole array -/

/-- The first call reads every input whole. -/
theorem index0 : ∀ t : Fin cfg0.N, (win0_0.index t = ![0, 0, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0, 0])
    ∧ win0_7.index t = ![0, 0, 0] ∧ win0_8.index t = ![0, 0, 0] ∧ win0_9.index t = ![0, 0, 0] :=
  (by decide +kernel : ∀ t : Fin grid0.N, _)

/-- The first input of the first call is its whole array. -/
theorem blk0_0 (c : Dev nD) (t : Fin cfg0.N) : Tables.blk V c 0 t = V c (Proc.devRef .tc main_v78) := by blk_ext! [Tables.blk, index0 t]
/-- The second input of the first call is its whole array. -/
theorem blk0_1 (c : Dev nD) (t : Fin cfg0.N) : Tables.blk V c 1 t = V c (Proc.devRef .tc main_v79) := by blk_ext! [Tables.blk, index0 t]
/-- The third input of the first call is its whole array. -/
theorem blk0_2 (c : Dev nD) (t : Fin cfg0.N) : Tables.blk V c 2 t = V c (Proc.devRef .tc main_v102) := by blk_ext! [Tables.blk, index0 t]
/-- The fourth input of the first call is its whole array. -/
theorem blk0_3 (c : Dev nD) (t : Fin cfg0.N) : Tables.blk V c 3 t = V c (Proc.devRef .tc main_arg4) := by blk_ext! [Tables.blk, index0 t]
/-- The fifth input of the first call is its whole array. -/
theorem blk0_4 (c : Dev nD) (t : Fin cfg0.N) : Tables.blk V c 4 t = V c (Proc.devRef .tc main_arg5) := by blk_ext! [Tables.blk, index0 t]
/-- The sixth input of the first call is its whole array. -/
theorem blk0_5 (c : Dev nD) (t : Fin cfg0.N) : Tables.blk V c 5 t = V c (Proc.devRef .tc main_arg6) := by blk_ext! [Tables.blk, index0 t]
/-- The seventh input of the first call is its whole array. -/
theorem blk0_6 (c : Dev nD) (t : Fin cfg0.N) : Tables.blk V c 6 t = V c (Proc.devRef .tc main_arg7) := by blk_ext! [Tables.blk, index0 t]

/-- The table of cubic products after the first call. -/
theorem table3_final (c : Dev nD) : (Tables.dat V c).arrAt 7 cfg0.N = Tables.table3 (V c (Proc.devRef .tc main_v78)) (V c (Proc.devRef .tc main_v79)) (V c (Proc.devRef .tc main_arg5)) := by
  refine (Tables.dat V c).arrAt_eq_of_covers 7 _ (by decide +kernel) fun t hf y => ?_
  blk_simp
  rw [Tables.after_7, blk0_0, blk0_1, blk0_4]
  refine congrArg _ ?_
  blk_ext [index0 t]

/-- The table of quadratic products after the first call. -/
theorem table2_final (c : Dev nD) : (Tables.dat V c).arrAt 8 cfg0.N = Tables.table2 (V c (Proc.devRef .tc main_v102)) (V c (Proc.devRef .tc main_arg6)) := by
  refine (Tables.dat V c).arrAt_eq_of_covers 8 _ (by decide +kernel) fun t hf y => ?_
  blk_simp
  rw [Tables.after_8, blk0_2, blk0_5]
  refine congrArg _ ?_
  blk_ext [index0 t]

/-- The table of linear products after the first call. -/
theorem table1_final (c : Dev nD) : (Tables.dat V c).arrAt 9 cfg0.N = Tables.table1 (V c (Proc.devRef .tc main_arg4)) (V c (Proc.devRef .tc main_arg7)) := by
  refine (Tables.dat V c).arrAt_eq_of_covers 9 _ (by decide +kernel) fun t hf y => ?_
  blk_simp
  rw [Tables.after_9, blk0_3, blk0_6]
  refine congrArg _ ?_
  blk_ext [index0 t]

/-! ## The second call: eight atoms to a block -/

/-- The second call reads the types and features block by block, and the tables whole. -/
theorem index1 : ∀ t : Fin cfg1.N, (win1_0.index t = ![t.val, 0] ∧ win1_1.index t = ![t.val, 0, 0]) ∧ (win1_2.index t = ![0, 0, 0, 0] ∧ win1_3.index t = ![0, 0, 0]
    ∧ win1_4.index t = ![0, 0, 0] ∧ win1_5.index t = ![0, 0] ∧ win1_6.index t = ![0, 0])
    ∧ win1_7.index t = ![t.val, 0] :=
  (by decide +kernel : ∀ t : Fin grid1.N, _)

/-- Atom `a` of point `t`. -/
def atom (t : Fin cfg1.N) (a : Fin 8) : Fin 2048 := ⟨t.val * 8 + a.val, by have : t.val < 256 := t.isLt; omega⟩

/-- The types' block holds the atoms' types. -/
theorem blk1_0 (c : Dev nD) (t : Fin cfg1.N) (a : Fin 8) : Rows.blk V c 0 t (ix2 a 0) = V c (Proc.devRef .tc main_v105) (ix2 (atom t a) 0) := by
  blk_simp [Rows.blk, atom]
  refine congrArg _ ?_
  blk_ext [index1 t, atom]
/-- The features' block holds the atoms' features. -/
theorem blk1_1 (c : Dev nD) (t : Fin cfg1.N) (a : Fin 8) (k : Fin 16) (b : Fin 96) :
    Rows.blk V c 1 t (ix3 a k b) = V c (Proc.devRef .tc main_arg0) (ix3 (atom t a) k b) := by
  blk_simp [Rows.blk, atom]
  refine congrArg _ ?_
  blk_ext [index1 t, atom]
/-- The third input of the second call is its whole array. -/
theorem blk1_2 (c : Dev nD) (t : Fin cfg1.N) : Rows.blk V c 2 t = V c (Proc.devRef .tc main_v104) := by blk_ext! [Rows.blk, index1 t]
/-- The fourth input of the second call is its whole array. -/
theorem blk1_3 (c : Dev nD) (t : Fin cfg1.N) : Rows.blk V c 3 t = V c (Proc.devRef .tc main_v103_1) := by blk_ext! [Rows.blk, index1 t]
/-- The fifth input of the second call is its whole array. -/
theorem blk1_4 (c : Dev nD) (t : Fin cfg1.N) : Rows.blk V c 4 t = V c (Proc.devRef .tc main_v103_2) := by blk_ext! [Rows.blk, index1 t]
/-- The sixth input of the second call is its whole array. -/
theorem blk1_5 (c : Dev nD) (t : Fin cfg1.N) : Rows.blk V c 5 t = V c (Proc.devRef .tc main_cst_19) := by blk_ext! [Rows.blk, index1 t]
/-- The seventh input of the second call is its whole array. -/
theorem blk1_6 (c : Dev nD) (t : Fin cfg1.N) : Rows.blk V c 6 t = V c (Proc.devRef .tc main_cst_20) := by blk_ext! [Rows.blk, index1 t]

/-- One atom's row at a channel, from the tables and the features, for pairs of rows `I`, `J`. -/
def entry (x : Vec Ideal S2048x16x96 .f32) (t3 : Vec Ideal S3x16x136x96 .f32) (t2 : Vec Ideal S3x136x96 .f32) (t1 : Vec Ideal S3x16x96 .f32)
    (I J : Fin 136 → Fin 16) (e : Fin 3) (A : Fin 2048) (c : Fin 96) : EReal :=
  ∑ p : Fin 136, (t2 (ix3 e p c) + ∑ k : Fin 16, t3 (ix4 e k p c) * x (ix3 A k c)) * x (ix3 A (I p) c) * x (ix3 A (J p) c)
    + ∑ i : Fin 16, t1 (ix3 e i c) * x (ix3 A i c)

variable (hV : ∀ c, Rows.Fits V c)

/-- The block that point `t` leaves, at an atom and a channel. -/
theorem rows_block (c : Dev nD) (I J : Fin 136 → Fin 16)
    (hpi : ∀ p l, V c (Proc.devRef .tc main_cst_19) (ix2 p l) = if l = I p then (1 : EReal) else 0)
    (hpj : ∀ p l, V c (Proc.devRef .tc main_cst_20) (ix2 p l) = if l = J p then (1 : EReal) else 0)
    (hz : ∀ (e : Fin 3) (k : Fin 16) (p : Fin 136) (b : Fin 96), Atoms.cut k ≤ p.val → V c (Proc.devRef .tc main_v104) (ix4 e k p b) = (0 : EReal))
    (e : Fin 2048 → Fin 3) (he : ∀ A, V c (Proc.devRef .tc main_v105) (ix2 A 0) = BitVec.ofNat 32 (e A).val)
    (t : Fin cfg1.N) (a : Fin 8) (b : Fin 96) :
    Atoms.outBlock (Rows.blk V c 0 t) (Rows.blk V c 1 t) (Rows.blk V c 2 t) (Rows.blk V c 3 t) (Rows.blk V c 4 t) (Rows.blk V c 5 t) (Rows.blk V c 6 t)
      (hV c t) (ix2 a b) = entry (V c (Proc.devRef .tc main_arg0)) (V c (Proc.devRef .tc main_v104))
      (V c (Proc.devRef .tc main_v103_1)) (V c (Proc.devRef .tc main_v103_2)) I J (e (atom t a)) (atom t a) b := by
  refine (Atoms.outBlock_apply _ _ _ _ _ _ _ (hV c t) a b).trans ?_
  refine (Atoms.outRow_apply _ _ _ _ _ _ _ a (hV c t a) I J ?_ ?_ ?_ (e (atom t a)) ?_ 0 b).trans ?_
  · rw [blk1_5]; exact hpi
  · rw [blk1_6]; exact hpj
  · rw [blk1_2]; exact hz
  · rw [blk1_0]; exact he _
  · simp only [blk1_1, blk1_2, blk1_3, blk1_4]
    rfl

/-- The result array after the second call: every atom's row. -/
theorem rows_final (c : Dev nD) (I J : Fin 136 → Fin 16)
    (hpi : ∀ p l, V c (Proc.devRef .tc main_cst_19) (ix2 p l) = if l = I p then (1 : EReal) else 0)
    (hpj : ∀ p l, V c (Proc.devRef .tc main_cst_20) (ix2 p l) = if l = J p then (1 : EReal) else 0)
    (hz : ∀ (e : Fin 3) (k : Fin 16) (p : Fin 136) (b : Fin 96), Atoms.cut k ≤ p.val → V c (Proc.devRef .tc main_v104) (ix4 e k p b) = (0 : EReal))
    (e : Fin 2048 → Fin 3) (he : ∀ A, V c (Proc.devRef .tc main_v105) (ix2 A 0) = BitVec.ofNat 32 (e A).val) :
    (Rows.dat V hV c).arrAt 7 cfg1.N = fun i => entry (V c (Proc.devRef .tc main_arg0)) (V c (Proc.devRef .tc main_v104))
      (V c (Proc.devRef .tc main_v103_1)) (V c (Proc.devRef .tc main_v103_2)) I J (e (i 0)) (i 0) (i 1) := by
  refine (Rows.dat V hV c).arrAt_eq_of_covers 7 _ (by decide +kernel) fun t hf y => ?_
  blk_simp
  rw [Rows.after_7]
  have hy : y = ix2 (y 0) (y 1) := Idealize.ShloMosaic.ValueIdx.eq_ix2 y
  have h0 : ((win1_7.blk t).view.emb y) 0 = atom t (y 0) := Fin.ext (by blk_simp [index1 t, atom])
  have h1 : ((win1_7.blk t).view.emb y) 1 = y 1 := Fin.ext (by blk_simp [index1 t, atom])
  rw [h0, h1]
  exact (congrArg _ hy).trans (rows_block V hV c I J hpi hpj hz e he t (y 0) (y 1))

end Cert.KernelIdeal.Arrays
-- ==== Proof.Value.Result.lean ====
module

public import proofs.«01_k».proof.Proof.Value.Tables
public import proofs.«01_k».proof.Proof.Value.Arrays
public import proofs.«01_k».proof.Proof.Value.Host

/-! The kernel's result array over the extended reals, as a function of the arguments. -/

@[expose] public section

set_option maxRecDepth 16384

noncomputable section

namespace Cert.KernelIdeal.Result

open Cert.KernelIdeal Cert.KernelIdeal.Gen Cert.KernelIdeal.Run Cert.KernelIdeal.Prefix
open Idealize.ShloMosaic hiding ix1 ix2 ix3 ix4 ix5
open Idealize.ShloMosaic.TcCoe Idealize.ShloMosaic.ValueIdx
open scoped BigOperators

variable (m : (ℓ : Loc nD τ sig) → Buf (Elt Ideal) ℓ) (c : Dev nD)

/-! ## What the calls read -/

/-- An argument before the first call is as launched. -/
theorem W1_arg (r : Ref sig .tc) (h : r ∉ hostOps0_W) : W1 m c (Proc.devRef .tc r) = m ((c.tc : Thread nD τ).loc r) :=
  StableHlo.after_of_writes_sub hostOps0 _ hostOps0_writes h

/-- A buffer that the first call and the reshapes leave alone. -/
theorem W3_same (r : Ref sig .tc) (h1 : r ∉ hostOps1_W) (h2 : ∀ w, Pipeline.arrRef spec0 w = r → (cfg0.win w).isOut = false) :
    W3 m c (Proc.devRef .tc r) = W1 m c (Proc.devRef .tc r) := (W3_of m c r h1).trans (W2_of m c r h2)

/-- The features that the second call reads. -/
theorem feats : W3 m c (Proc.devRef .tc main_arg0) = m ((c.tc : Thread nD τ).loc main_arg0) :=
  (W3_same m c main_arg0 (by decide) (by decide)).trans (W1_arg m c main_arg0 (by decide))

/-- The selection tables that the second call reads. -/
theorem picks : W3 m c (Proc.devRef .tc main_cst_19) = pickI ∧ W3 m c (Proc.devRef .tc main_cst_20) = pickJ :=
  ⟨(W3_same m c main_cst_19 (by decide) (by decide)).trans (after_pickI _), (W3_same m c main_cst_20 (by decide) (by decide)).trans (after_pickJ _)⟩

/-- The cubic coefficients, as an array. -/
abbrev U3 : Vec Ideal S16x16x16x23 .f32 := m ((c.tc : Thread nD τ).loc main_arg2)
/-- The quadratic coefficients. -/
abbrev U2 : Vec Ideal S16x16x4 .f32 := m ((c.tc : Thread nD τ).loc main_arg3)
/-- The linear coefficients. -/
abbrev U1 : Vec Ideal S16x1 .f32 := m ((c.tc : Thread nD τ).loc main_arg4)
/-- The cubic weights. -/
abbrev C3 : Vec Ideal S3x23x96 .f32 := m ((c.tc : Thread nD τ).loc main_arg5)
/-- The quadratic weights. -/
abbrev C2 : Vec Ideal S3x4x96 .f32 := m ((c.tc : Thread nD τ).loc main_arg6)
/-- The linear weights. -/
abbrev C1 : Vec Ideal S3x1x96 .f32 := m ((c.tc : Thread nD τ).loc main_arg7)

/-- The first call's cubic table. -/
theorem cubic_table : W2 m c (Proc.devRef .tc main_v103_0) = Tables.table3 (planes (U3 m c)) (scales (F := Ideal)) (C3 m c) := by
  refine (Pipeline.afterRegion_arr (Tables.dat (W1 m) c) (W1 m c) launch0.win.arr_inj 7).trans ?_
  rw [Arrays.table3_final, show W1 m c (Proc.devRef .tc main_v78) = planes (U3 m c) from after_planes _,
    show W1 m c (Proc.devRef .tc main_v79) = scales from after_scales _, W1_arg m c main_arg5 (by decide)]

/-- The first call's quadratic table. -/
theorem quadratic_table : W2 m c (Proc.devRef .tc main_v103_1) = Tables.table2 (quads (U2 m c)) (C2 m c) := by
  refine (Pipeline.afterRegion_arr (Tables.dat (W1 m) c) (W1 m c) launch0.win.arr_inj 8).trans ?_
  rw [Arrays.table2_final, show W1 m c (Proc.devRef .tc main_v102) = quads (U2 m c) from after_quads _, W1_arg m c main_arg6 (by decide)]

/-- The first call's linear table. -/
theorem linear_table : W2 m c (Proc.devRef .tc main_v103_2) = Tables.table1 (U1 m c) (C1 m c) := by
  refine (Pipeline.afterRegion_arr (Tables.dat (W1 m) c) (W1 m c) launch0.win.arr_inj 9).trans ?_
  rw [Arrays.table1_final, W1_arg m c main_arg4 (by decide), W1_arg m c main_arg7 (by decide)]

/-! ## The tables entry by entry -/

/-- The cubic coefficient at the six orders of three rows, summed. -/
def six (i j k : Fin 16) (l : Fin 23) : EReal :=
  U3 m c (ix4 i j k l) + U3 m c (ix4 i k j l) + U3 m c (ix4 j i k l) + U3 m c (ix4 k i j l) + U3 m c (ix4 j k i l) + U3 m c (ix4 k j i l)

/-- The cubic table that the second call reads. -/
theorem v104_apply (e : Fin 3) (k : Fin 16) (p : Fin 136) (b : Fin 96) :
    W3 m c (Proc.devRef .tc main_v104) (ix4 e k p b)
      = (∑ l : Fin 23, six m c (rowI p) (rowJ p) k l * ((share (rowI p) (rowJ p) k : ℝ) : EReal) * C3 m c (ix3 e l b) : EReal) := by
  have h : W3 m c (Proc.devRef .tc main_v104)
      = shapeCast S3x16x136x96 (W2 m c (Proc.devRef .tc main_v103_0)) shapeCasts_S3x2176x96_S3x16x136x96 := rfl
  rw [h, cubic_table]
  refine (shapeCast_apply _ _ _ (ix3 e (at3 k p) b) ?_).trans ?_
  · rw [Shape.rowMajor_val_three, Shape.rowMajor_val_four]
    show (e.val * 2176 + (136 * k.val + p.val)) * 96 + b.val = ((e.val * 16 + k.val) * 136 + p.val) * 96 + b.val
    omega
  rw [Tables.table3_apply]
  refine Finset.sum_congr (M := EReal) rfl fun l _ => ?_
  rw [Tables.scaled_apply, scales_apply]
  simp only [planes_apply]
  rfl

/-- The quadratic table that the second call reads. -/
theorem v103_1_apply (e : Fin 3) (p : Fin 136) (b : Fin 96) :
    W3 m c (Proc.devRef .tc main_v103_1) (ix3 e p b)
      = (∑ l : Fin 4, (U2 m c (ix3 (rowI p) (rowJ p) l) + U2 m c (ix3 (rowJ p) (rowI p) l)) * ((weight (rowI p) (rowJ p) : ℝ) : EReal)
          * C2 m c (ix3 e l b) : EReal) := by
  rw [W3_of m c main_v103_1 (by decide), quadratic_table, Tables.table2_apply]
  refine Finset.sum_congr (M := EReal) rfl fun l _ => ?_
  rw [quads_apply]

/-- The linear table that the second call reads. -/
theorem v103_2_apply (e : Fin 3) (i : Fin 16) (b : Fin 96) :
    W3 m c (Proc.devRef .tc main_v103_2) (ix3 e i b) = (U1 m c (ix2 i 0) * C1 m c (ix3 e 0 b) : EReal) := by
  rw [W3_of m c main_v103_2 (by decide), linear_table, Tables.table1_apply]

/-- The cubic table is zero where the second call leaves it out. -/
theorem v104_zero (e : Fin 3) (k : Fin 16) (p : Fin 136) (b : Fin 96) (h : Atoms.cut k ≤ p.val) :
    W3 m c (Proc.devRef .tc main_v104) (ix4 e k p b) = (0 : EReal) := by
  rw [v104_apply]
  refine Finset.sum_eq_zero (M := EReal) fun l _ => ?_
  rw [share, if_neg (not_le.2 (cut_lt k p h)), EReal.coe_zero, mul_zero, zero_mul]

/-! ## The result -/

/-- The kernel's result at every atom and channel. -/
theorem value (hF : Fit m) (e : Fin 2048 → Fin 3) (he : ∀ A, m ((c.tc : Thread nD τ).loc main_arg1) (ix1 A) = BitVec.ofNat 32 (e A).val) :
    W4 m hF c (Proc.devRef .tc main_v106) = fun i => Arrays.entry (m ((c.tc : Thread nD τ).loc main_arg0)) (W3 m c (Proc.devRef .tc main_v104))
      (W3 m c (Proc.devRef .tc main_v103_1)) (W3 m c (Proc.devRef .tc main_v103_2)) rowI rowJ (e (i 0)) (i 0) (i 1) := by
  refine (Pipeline.afterRegion_arr (Rows.dat (W3 m) hF c) (W3 m c) launch1.win.arr_inj 7).trans ?_
  rw [Arrays.rows_final (W3 m) hF c rowI rowJ ?_ ?_ (v104_zero m c) e ?_, feats]
  · rw [(picks m c).1]; exact pickI_apply
  · rw [(picks m c).2]; exact pickJ_apply
  · intro A
    rw [W3_types, ← he]
    refine shapeCast_apply _ _ _ (ix1 A) ?_
    rw [Shape.rowMajor_val_one, Shape.rowMajor_val_two]
    show A.val = A.val * 1 + 0
    omega

end Cert.KernelIdeal.Result
-- ==== Proof.Value.Reference.lean ====
module

public import proofs.«01_k».proof.Proof.Gen.ReferenceIdeal.Read
public import Idealize.ShloMosaic.Lib.IdealHost
public import Idealize.ShloMosaic.Lib.ValueIdx
public import Idealize.ShloMosaic.Lib.TwoAxisContraction
public import Idealize.ShloMosaic.Lib.ReduceAll
public import Idealize.ShloMosaic.Lib.Pipeline.Value

/-! The reference's result over the extended reals, entry by entry, for atoms of known elements. -/

@[expose] public section

set_option maxRecDepth 16384

noncomputable section

namespace Cert.ReferenceIdeal.Entries

open Cert.ReferenceIdeal Cert.ReferenceIdeal.Gen Cert.ReferenceIdeal.Read
open Idealize.ShloMosaic Idealize.ShloMosaic.TcCoe Idealize.ShloMosaic.ValueIdx
open scoped BigOperators

variable (x0 : (⟨S2048x16x96, .f32⟩ : BufTy).Contents (Elt Ideal)) (x1 : (⟨S2048, .i32⟩ : BufTy).Contents (Elt Ideal))
  (x2 : (⟨S16x16x16x23, .f32⟩ : BufTy).Contents (Elt Ideal)) (x3 : (⟨S16x16x4, .f32⟩ : BufTy).Contents (Elt Ideal))
  (x4 : (⟨S16x1, .f32⟩ : BufTy).Contents (Elt Ideal)) (x5 : (⟨S3x23x96, .f32⟩ : BufTy).Contents (Elt Ideal))
  (x6 : (⟨S3x4x96, .f32⟩ : BufTy).Contents (Elt Ideal)) (x7 : (⟨S3x1x96, .f32⟩ : BufTy).Contents (Elt Ideal))

/-! ## The coefficients weighted by element -/

/-- The cubic coefficients of an element. -/
def cube (e : Fin 3) (i j k : Fin 16) (c : Fin 96) : EReal := ∑ l : Fin 23, x5 (ix3 e l c) * x2 (ix4 i j k l)

/-- The quadratic coefficients of an element. -/
def square (e : Fin 3) (i j : Fin 16) (c : Fin 96) : EReal := ∑ l : Fin 4, x6 (ix3 e l c) * x3 (ix3 i j l)

/-- The linear coefficients of an element. -/
def line (e : Fin 3) (i : Fin 16) (c : Fin 96) : EReal := x7 (ix3 e 0 c) * x4 (ix2 i 0)

/-- The cubic table, entry by entry. -/
theorem v2_apply (e : Fin 3) (i j k : Fin 16) (c : Fin 96) : val_main_v2 (F := Ideal) x2 x5 (ix5 e i j k c) = cube x2 x5 e i j k c := by
  rw [val_main_v2_apply, val_main_v1_apply]
  refine Finset.sum_congr rfl fun l _ => congrArg₂ (· * ·) (congrArg x5 (funext fun b => ?_)) (congrArg x2 (funext fun b => ?_))
  · match b with | ⟨0, _⟩ => rfl | ⟨1, _⟩ => rfl | ⟨2, _⟩ => rfl
  · match b with | ⟨0, _⟩ => rfl | ⟨1, _⟩ => rfl | ⟨2, _⟩ => rfl | ⟨3, _⟩ => rfl

/-- The quadratic table, entry by entry. -/
theorem v4_apply (e : Fin 3) (i j : Fin 16) (c : Fin 96) : val_main_v4 (F := Ideal) x3 x6 (ix4 e i j c) = square x3 x6 e i j c := by
  rw [val_main_v4_apply, val_main_v3_apply]
  refine Finset.sum_congr rfl fun l _ => congrArg₂ (· * ·) (congrArg x6 (funext fun b => ?_)) (congrArg x3 (funext fun b => ?_))
  · match b with | ⟨0, _⟩ => rfl | ⟨1, _⟩ => rfl | ⟨2, _⟩ => rfl
  · match b with | ⟨0, _⟩ => rfl | ⟨1, _⟩ => rfl | ⟨2, _⟩ => rfl

/-- The linear table, entry by entry. -/
theorem v6_apply (e : Fin 3) (i : Fin 16) (c : Fin 96) : val_main_v6 (F := Ideal) x4 x7 (ix3 e i c) = line x4 x7 e i c := by
  rw [val_main_v6_apply, val_main_v5_apply, Fin.sum_univ_one]
  refine congrArg₂ (· * ·) (congrArg x7 (funext fun b => ?_)) (congrArg x4 (funext fun b => ?_))
  · match b with | ⟨0, _⟩ => rfl | ⟨1, _⟩ => rfl | ⟨2, _⟩ => rfl
  · match b with | ⟨0, _⟩ => rfl | ⟨1, _⟩ => rfl

/-! ## The element of each atom -/

variable (e : Fin 2048 → Fin 3) (he : ∀ A, x1 (ix1 A) = BitVec.ofNat 32 (e A).val)

include he

/-- The one-hot row of an atom. -/
theorem v0_apply (A : Fin 2048) (e' : Fin 3) : val_main_v0 (F := Ideal) x1 (ix2 A e') = if e A = e' then 1 else 0 := by
  have h2 : val_main_call0_v2 (F := Ideal) x1 (ix2 A e') = BitVec.ofNat 32 (e A).val := by
    rw [val_main_call0_v2_apply, val_main_call0_v0_apply, ← he]
    exact congrArg x1 (funext fun b => match b with | ⟨0, _⟩ => rfl)
  have h3 : val_main_call0_v3 (F := Ideal) (ix2 A e') = BitVec.ofNat 32 e'.val := by
    rw [val_main_call0_v3_apply]; rfl
  rw [val_main_v0_apply, val_main_call0_v4_apply, h2, h3]
  have key : ∀ a b : Fin 3, IntOp.cmpi .eq (BitVec.ofNat 32 a.val) (BitVec.ofNat 32 b.val) = if a = b then 1#1 else 0#1 := by decide
  rw [key]
  show (((if e A = e' then 1#1 else 0#1 : BitVec 1).toNat : ℝ) : EReal) = _
  split_ifs <;> simp

/-- The features of an atom placed at its element. -/
theorem v11_apply (A : Fin 2048) (e' : Fin 3) (k : Fin 16) (c : Fin 96) :
    val_main_v11 (F := Ideal) x0 x1 (ix4 A e' k c) = (if e A = e' then 1 else 0) * x0 (ix3 A k c) := by
  rw [val_main_v11_apply, val_main_v9_apply, val_main_v7_apply, val_main_v10_apply, val_main_v8_apply, ← v0_apply x1 e he]
  refine congrArg₂ (fun a b : EReal => a * b) (congrArg _ (funext fun b => ?_)) (congrArg x0 (funext fun b => ?_))
  · match b with | ⟨0, _⟩ => rfl | ⟨1, _⟩ => rfl
  · match b with | ⟨0, _⟩ => rfl | ⟨1, _⟩ => rfl | ⟨2, _⟩ => rfl

/-- The contraction over elements and rows keeps the atom's own element. -/
theorem v12_apply (A : Fin 2048) (i j : Fin 16) (c : Fin 96) :
    val_main_v12 (F := Ideal) x0 x1 x2 x5 (ix4 c A i j) = ∑ k : Fin 16, x0 (ix3 A k c) * cube x2 x5 (e A) i j k c := by
  let D := dot_S2048x3x16x96_S3x16x16x16x96_S96x2048x16x16_12_03_0_12_3_4
  have h : val_main_v12 (F := Ideal) x0 x1 x2 x5 (ix4 c A i j)
      = ∑ e' : Fin 3, ∑ k : Fin 16, val_main_v11 (F := Ideal) x0 x1 (ix4 A e' k c) * val_main_v2 (F := Ideal) x2 x5 (ix5 e' i j k c) := by
    unfold val_main_v12
    generalize val_main_v11 (F := Ideal) x0 x1 = y
    generalize val_main_v2 (F := Ideal) x2 x5 = z
    simp only [Host.dotGeneral]
    rw [Ideal.dotGeneral_apply, sum_contr2 D 3 16 rfl rfl rfl]
    refine Finset.sum_congr rfl fun e' _ => Finset.sum_congr rfl fun k _ => ?_
    have q0 := contrEquiv2_symm_val0 D 3 16 rfl rfl rfl (e', k)
    have q1 := contrEquiv2_symm_val1 D 3 16 rfl rfl rfl (e', k)
    refine congrArg₂ (· * ·) (congrArg y (funext fun b => Fin.ext ?_)) (congrArg z (funext fun b => Fin.ext ?_))
    · match b with
      | ⟨0, _⟩ => rfl
      | ⟨1, _⟩ => exact q0
      | ⟨2, _⟩ => exact q1
      | ⟨3, _⟩ => rfl
    · match b with
      | ⟨0, _⟩ => exact q0
      | ⟨1, _⟩ => rfl
      | ⟨2, _⟩ => rfl
      | ⟨3, _⟩ => exact q1
      | ⟨4, _⟩ => rfl
  rw [h, Finset.sum_eq_single (e A)]
  · refine Finset.sum_congr rfl fun k _ => ?_
    rw [v11_apply x0 x1 e he, v2_apply, if_pos rfl, one_mul]
  · intro e' _ hne
    refine Finset.sum_eq_zero fun k _ => ?_
    rw [v11_apply x0 x1 e he, if_neg (Ne.symm hne), zero_mul, zero_mul]
  · exact fun h => absurd (Finset.mem_univ _) h

/-! ## The rows taken at each atom's element -/

/-- The index at which the quadratic table is taken is the atom's element. -/
theorem at1 (A : Fin 2048) (z : Fin 1) : val_main_call1_v5 (F := Ideal) x1 (ix2 A z) = BitVec.ofNat 32 (e A).val := by
  rw [val_main_call1_v5_apply, show idx_main_call1_v5 (ix2 A z) = ix1 A from funext fun b => match b with | ⟨0, _⟩ => rfl,
    val_main_call1_v4_apply, val_main_call1_v1_apply, val_main_call1_v0_apply, val_main_call1_c_apply, he]
  have key : ∀ a : Fin 3, IntOp.cmpi .slt (BitVec.ofNat 32 a.val) 0#32 = 0#1 := by decide
  rw [key]
  rfl

/-- The index at which the linear table is taken is the atom's element. -/
theorem at2 (A : Fin 2048) (z : Fin 1) : val_main_call2_v5 (F := Ideal) x1 (ix2 A z) = BitVec.ofNat 32 (e A).val := by
  rw [val_main_call2_v5_apply, show idx_main_call2_v5 (ix2 A z) = ix1 A from funext fun b => match b with | ⟨0, _⟩ => rfl,
    val_main_call2_v4_apply, val_main_call2_v1_apply, val_main_call2_v0_apply, val_main_call2_c_apply, he]
  have key : ∀ a : Fin 3, IntOp.cmpi .slt (BitVec.ofNat 32 a.val) 0#32 = 0#1 := by decide
  rw [key]
  rfl

/-- The first index is in range. -/
theorem in1 (A : Fin 2048) : val_main_call1_v12 (F := Ideal) x1 (ix1 A) = 1#1 := by
  unfold val_main_call1_v12
  refine Host.reduce_andi_one _ _ _ _ _ rfl fun i => ?_
  obtain ⟨a, z, rfl⟩ : ∃ a z, i = ix2 a z := ⟨_, _, eq_ix2 i⟩
  rw [val_main_call1_v11_apply, val_main_call1_v7_apply, val_main_call1_v10_apply, at1 x1 e he, val_main_call1_v6_apply, val_main_call1_v9_apply,
    val_main_call1_v8_apply]
  have key : ∀ a : Fin 3, IntOp.andi (IntOp.cmpi .sge (BitVec.ofNat 32 a.val) 0#32) (IntOp.cmpi .sle (BitVec.ofNat 32 a.val) 2#32) = 1#1 := by decide
  exact key _

/-- The second index is in range. -/
theorem in2 (A : Fin 2048) : val_main_call2_v12 (F := Ideal) x1 (ix1 A) = 1#1 := by
  unfold val_main_call2_v12
  refine Host.reduce_andi_one _ _ _ _ _ rfl fun i => ?_
  obtain ⟨a, z, rfl⟩ : ∃ a z, i = ix2 a z := ⟨_, _, eq_ix2 i⟩
  rw [val_main_call2_v11_apply, val_main_call2_v7_apply, val_main_call2_v10_apply, at2 x1 e he, val_main_call2_v6_apply, val_main_call2_v9_apply,
    val_main_call2_v8_apply]
  have key : ∀ a : Fin 3, IntOp.andi (IntOp.cmpi .sge (BitVec.ofNat 32 a.val) 0#32) (IntOp.cmpi .sle (BitVec.ofNat 32 a.val) 2#32) = 1#1 := by decide
  exact key _

/-- The quadratic coefficients taken for an atom. -/
theorem v14_apply (A : Fin 2048) (i j : Fin 16) (c : Fin 96) :
    val_main_v14 (F := Ideal) x1 x3 x6 (ix4 A i j c) = square x3 x6 (e A) i j c := by
  rw [val_main_v14_apply, val_main_call1_v14_apply, show idx_main_call1_v14 (ix4 A i j c) = ix1 A from funext fun b => match b with | ⟨0, _⟩ => rfl,
    in1 x1 e he, ← v4_apply]
  show val_main_call1_v13 (F := Ideal) x1 x3 x6 (ix4 A i j c) = _
  unfold val_main_call1_v13
  have hw := at1 x1 e he A 0
  revert hw
  generalize val_main_call1_v5 (F := Ideal) x1 = idx
  generalize val_main_v4 (F := Ideal) x3 x6 = y
  intro hw
  let G := gather_S3x16x16x96_S2048x1_S2048x16x16x96_123_0_n_n_0_1_1161696
  have s0 : G.start (ix4 A i j c) idx 0 = (e A).val := by
    have hsi : G.siIdx (ix4 A i j c) ⟨List.idxOf (0 : Fin 4) G.startIndexMap, List.idxOf_lt_length_iff.2 (by decide)⟩ = ix2 A 0 := by
      funext b; match b with | ⟨0, _⟩ => rfl | ⟨1, _⟩ => rfl
    unfold GatherDims.start
    rw [dif_pos (show (0 : Fin 4) ∈ G.startIndexMap by decide), hsi, hw]
    have key : ∀ a : Fin 3, min (BitVec.ofNat 32 a.val).toInt.toNat 2 = a.val := by decide
    exact key _
  have o0 : G.offCoord (ix4 A i j c) 0 = 0 := GatherDims.offCoord_eq_zero _ _ _ (by decide)
  unfold Host.gather
  refine congrArg y (funext fun a => Fin.ext ?_)
  show G.start (ix4 A i j c) idx a + G.batchCoord (ix4 A i j c) a + G.offCoord (ix4 A i j c) a = _
  rw [GatherDims.batchCoord_eq_zero _ _ _ List.not_mem_nil, Nat.add_zero]
  match a with
  | ⟨0, _⟩ => exact congrArg₂ (· + ·) s0 o0
  | ⟨1, _⟩ => exact Nat.zero_add _
  | ⟨2, _⟩ => exact Nat.zero_add _
  | ⟨3, _⟩ => exact Nat.zero_add _

/-- The linear coefficients taken for an atom. -/
theorem v18_apply (A : Fin 2048) (i : Fin 16) (c : Fin 96) : val_main_v18 (F := Ideal) x1 x4 x7 (ix3 A i c) = line x4 x7 (e A) i c := by
  rw [val_main_v18_apply, val_main_call2_v14_apply, show idx_main_call2_v14 (ix3 A i c) = ix1 A from funext fun b => match b with | ⟨0, _⟩ => rfl,
    in2 x1 e he, ← v6_apply]
  show val_main_call2_v13 (F := Ideal) x1 x4 x7 (ix3 A i c) = _
  unfold val_main_call2_v13
  have hw := at2 x1 e he A 0
  revert hw
  generalize val_main_call2_v5 (F := Ideal) x1 = idx
  generalize val_main_v6 (F := Ideal) x4 x7 = y
  intro hw
  let G := gather_S3x16x96_S2048x1_S2048x16x96_12_0_n_n_0_1_11696
  have s0 : G.start (ix3 A i c) idx 0 = (e A).val := by
    have hsi : G.siIdx (ix3 A i c) ⟨List.idxOf (0 : Fin 3) G.startIndexMap, List.idxOf_lt_length_iff.2 (by decide)⟩ = ix2 A 0 := by
      funext b; match b with | ⟨0, _⟩ => rfl | ⟨1, _⟩ => rfl
    unfold GatherDims.start
    rw [dif_pos (show (0 : Fin 3) ∈ G.startIndexMap by decide), hsi, hw]
    have key : ∀ a : Fin 3, min (BitVec.ofNat 32 a.val).toInt.toNat 2 = a.val := by decide
    exact key _
  have o0 : G.offCoord (ix3 A i c) 0 = 0 := GatherDims.offCoord_eq_zero _ _ _ (by decide)
  unfold Host.gather
  refine congrArg y (funext fun a => Fin.ext ?_)
  show G.start (ix3 A i c) idx a + G.batchCoord (ix3 A i c) a + G.offCoord (ix3 A i c) a = _
  rw [GatherDims.batchCoord_eq_zero _ _ _ List.not_mem_nil, Nat.add_zero]
  match a with
  | ⟨0, _⟩ => exact congrArg₂ (· + ·) s0 o0
  | ⟨1, _⟩ => exact Nat.zero_add _
  | ⟨2, _⟩ => exact Nat.zero_add _

/-! ## The result -/

/-- The sum over the second row, for an atom and its first row. -/
theorem v16_apply (A : Fin 2048) (i : Fin 16) (c : Fin 96) :
    val_main_v16 (F := Ideal) x0 x1 x2 x3 x5 x6 (ix3 A c i)
      = ∑ j : Fin 16, x0 (ix3 A j c) * (∑ k : Fin 16, x0 (ix3 A k c) * cube x2 x5 (e A) i j k c + square x3 x6 (e A) i j c) := by
  rw [val_main_v16_apply]
  refine Finset.sum_congr rfl fun j _ => congrArg₂ (· * ·) (congrArg x0 (funext fun b => ?_)) ?_
  · match b with | ⟨0, _⟩ => rfl | ⟨1, _⟩ => rfl | ⟨2, _⟩ => rfl
  · rw [val_main_v15_apply, val_main_v13_apply, ← v14_apply x1 x3 x6 e he, ← v12_apply x0 x1 x2 x5 e he]
    refine congrArg₂ (fun a b : EReal => a + b) (congrArg _ (funext fun b => ?_)) (congrArg _ (funext fun b => ?_))
    · match b with | ⟨0, _⟩ => rfl | ⟨1, _⟩ => rfl | ⟨2, _⟩ => rfl | ⟨3, _⟩ => rfl
    · match b with | ⟨0, _⟩ => rfl | ⟨1, _⟩ => rfl | ⟨2, _⟩ => rfl | ⟨3, _⟩ => rfl

/-- The reference's result at an atom and a channel. -/
theorem v20_apply (A : Fin 2048) (c : Fin 96) :
    val_main_v20 (F := Ideal) x0 x1 x2 x3 x4 x5 x6 x7 (ix2 A c)
      = ∑ i : Fin 16, ((∑ j : Fin 16, x0 (ix3 A j c) * (∑ k : Fin 16, x0 (ix3 A k c) * cube x2 x5 (e A) i j k c + square x3 x6 (e A) i j c))
        + line x4 x7 (e A) i c) * x0 (ix3 A i c) := by
  rw [val_main_v20_apply]
  refine Finset.sum_congr rfl fun i _ => congrArg₂ (· * ·) ?_ (congrArg x0 (funext fun b => ?_))
  · rw [val_main_v19_apply, val_main_v17_apply, ← v18_apply x1 x4 x7 e he, ← v16_apply x0 x1 x2 x3 x5 x6 e he]
    refine congrArg₂ (fun a b : EReal => a + b) (congrArg _ (funext fun b => ?_)) (congrArg _ (funext fun b => ?_))
    · match b with | ⟨0, _⟩ => rfl | ⟨1, _⟩ => rfl | ⟨2, _⟩ => rfl
    · match b with | ⟨0, _⟩ => rfl | ⟨1, _⟩ => rfl | ⟨2, _⟩ => rfl
  · match b with | ⟨0, _⟩ => rfl | ⟨1, _⟩ => rfl | ⟨2, _⟩ => rfl

end Cert.ReferenceIdeal.Entries
-- ==== Proof.Value.Equal.lean ====
module

public import proofs.«01_k».proof.Proof.Value.Sums
public import proofs.«01_k».proof.Proof.Value.Result
public import proofs.«01_k».proof.Proof.Value.Reference

/-! The two results are equal when the features and the cubic and quadratic data are finite. -/

@[expose] public section

set_option maxRecDepth 16384

noncomputable section

namespace Cert.Equal

open Cert.KernelIdeal.Prefix
open Idealize.ShloMosaic hiding ix1 ix2 ix3 ix4 ix5
open Idealize.ShloMosaic.TcCoe Idealize.ShloMosaic.ValueIdx
open scoped BigOperators

/-! ## Finite sums and one product that may be infinite -/

/-- A sum of reals, taken in the extended reals. -/
theorem coe_total {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

/-- A real plus any extended real, times a real. -/
theorem add_mul_coe (r x : ℝ) (u : EReal) : ((r : EReal) + u) * (x : EReal) = ((r * x : ℝ) : EReal) + u * (x : EReal) := by
  induction u using EReal.rec with
  | coe u => rw [← EReal.coe_add, ← EReal.coe_mul, ← EReal.coe_mul, ← EReal.coe_add, add_mul]
  | top =>
    rcases lt_trichotomy x 0 with h | rfl | h
    · rw [EReal.coe_add_top, EReal.top_mul_coe_of_neg h, EReal.add_bot]
    · simp
    · rw [EReal.coe_add_top, EReal.top_mul_coe_of_pos h, EReal.coe_add_top]
  | bot =>
    rcases lt_trichotomy x 0 with h | rfl | h
    · rw [EReal.add_bot, EReal.bot_mul_coe_of_neg h, EReal.coe_add_top]
    · simp
    · rw [EReal.add_bot, EReal.bot_mul_coe_of_pos h, EReal.add_bot]

/-- The kernel's sum over ordered pairs is the reference's nested sum, for one atom and channel. -/
theorem sums (x : Fin 16 → ℝ) (a3 : Fin 16 → Fin 16 → Fin 16 → Fin 23 → ℝ) (a2 : Fin 16 → Fin 16 → Fin 4 → ℝ) (c3 : Fin 23 → ℝ) (c2 : Fin 4 → ℝ)
    (u : Fin 16 → EReal) :
    ∑ p : Fin 136, ((∑ l, ((a2 (rowI p) (rowJ p) l : EReal) + (a2 (rowJ p) (rowI p) l : EReal)) * ((weight (rowI p) (rowJ p) : ℝ) : EReal) * (c2 l : EReal))
        + ∑ k, (∑ l, ((a3 (rowI p) (rowJ p) k l : EReal) + (a3 (rowI p) k (rowJ p) l : EReal) + (a3 (rowJ p) (rowI p) k l : EReal)
          + (a3 k (rowI p) (rowJ p) l : EReal) + (a3 (rowJ p) k (rowI p) l : EReal) + (a3 k (rowJ p) (rowI p) l : EReal))
          * ((share (rowI p) (rowJ p) k : ℝ) : EReal) * (c3 l : EReal)) * (x k : EReal)) * (x (rowI p) : EReal) * (x (rowJ p) : EReal)
      + ∑ i, u i * (x i : EReal)
      = ∑ i, ((∑ j, (x j : EReal) * (∑ k, (x k : EReal) * (∑ l, (c3 l : EReal) * (a3 i j k l : EReal)) + ∑ l, (c2 l : EReal) * (a2 i j l : EReal)))
        + u i) * (x i : EReal) := by
  simp only [← EReal.coe_add, ← EReal.coe_mul, coe_total, add_mul_coe, Finset.sum_add_distrib]
  refine congrArg (· + _) (congrArg Real.toEReal ?_)
  have h := Cert.KernelIdeal.Sums.total (fun i j k => ∑ l, c3 l * a3 i j k l) (fun i j => ∑ l, c2 l * a2 i j l) x
  refine Eq.trans ?_ (h.trans ?_)
  · refine Finset.sum_congr rfl fun p _ => ?_
    refine congrArg (fun r => r * x (rowI p) * x (rowJ p)) (congrArg₂ (· + ·) ?_ (Finset.sum_congr rfl fun k _ => congrArg (· * x k) ?_))
    · simp only [← Finset.sum_add_distrib, Finset.sum_mul]
      exact Finset.sum_congr rfl fun l _ => by ring
    · simp only [← Finset.sum_add_distrib, Finset.sum_mul]
      exact Finset.sum_congr rfl fun l _ => by ring
  · refine Finset.sum_congr rfl fun i _ => congrArg (· * x i) (Finset.sum_congr rfl fun j _ => congrArg (x j * ·) (add_comm _ _))

/-! ## The two results -/

open Cert.KernelIdeal in
/-- The kernel's result is the reference's function of the same arguments. -/
theorem results (m : (ℓ : Loc nD τ sig) → Buf (Elt Ideal) ℓ) (c : Dev nD) (hF : Run.Fit m) (e : Fin 2048 → Fin 3)
    (he : ∀ A, m ((c.tc : Thread nD τ).loc main_arg1) (ix1 A) = BitVec.ofNat 32 (e A).val)
    (X : S2048x16x96.Idx → ℝ) (hX : ∀ i, m ((c.tc : Thread nD τ).loc main_arg0) i = ((X i : ℝ) : EReal))
    (A3 : S16x16x16x23.Idx → ℝ) (hA3 : ∀ i, m ((c.tc : Thread nD τ).loc main_arg2) i = ((A3 i : ℝ) : EReal))
    (A2 : S16x16x4.Idx → ℝ) (hA2 : ∀ i, m ((c.tc : Thread nD τ).loc main_arg3) i = ((A2 i : ℝ) : EReal))
    (B3 : S3x23x96.Idx → ℝ) (hB3 : ∀ i, m ((c.tc : Thread nD τ).loc main_arg5) i = ((B3 i : ℝ) : EReal))
    (B2 : S3x4x96.Idx → ℝ) (hB2 : ∀ i, m ((c.tc : Thread nD τ).loc main_arg6) i = ((B2 i : ℝ) : EReal)) :
    Run.W4 m hF c (Proc.devRef .tc main_v106)
      = Cert.ReferenceIdeal.Read.val_main_v20 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  rw [Result.value m c hF e he]
  funext i
  obtain ⟨A, b, rfl⟩ : ∃ (A : Fin 2048) (b : Fin 96), i = ix2 A b := ⟨_, _, Idealize.ShloMosaic.ValueIdx.eq_ix2 i⟩
  refine Eq.trans ?_ (Cert.ReferenceIdeal.Entries.v20_apply _ _ _ _ _ _ _ _ e he A b).symm
  show Arrays.entry _ _ _ _ rowI rowJ (e A) A b = _
  unfold Arrays.entry Cert.ReferenceIdeal.Entries.cube Cert.ReferenceIdeal.Entries.square Cert.ReferenceIdeal.Entries.line
  have e0 : m ((c.tc : Thread nD τ).loc main_arg0) = fun i => ((X i : ℝ) : EReal) := funext hX
  have e2 : m ((c.tc : Thread nD τ).loc main_arg2) = fun i => ((A3 i : ℝ) : EReal) := funext hA3
  have e3 : m ((c.tc : Thread nD τ).loc main_arg3) = fun i => ((A2 i : ℝ) : EReal) := funext hA2
  have e5 : m ((c.tc : Thread nD τ).loc main_arg5) = fun i => ((B3 i : ℝ) : EReal) := funext hB3
  have e6 : m ((c.tc : Thread nD τ).loc main_arg6) = fun i => ((B2 i : ℝ) : EReal) := funext hB2
  rw [e0, e2, e3, e5, e6]
  refine Eq.trans ?_ (sums (fun k => X (ix3 A k b)) (fun i j k l => A3 (ix4 i j k l)) (fun i j l => A2 (ix3 i j l)) (fun l => B3 (ix3 (e A) l b))
    (fun l => B2 (ix3 (e A) l b)) (fun i => Result.C1 m c (ix3 (e A) 0 b) * Result.U1 m c (ix2 i 0)))
  refine congrArg₂ (fun a b : EReal => a + b) (Finset.sum_congr (M := EReal) rfl fun p _ => ?_) (Finset.sum_congr (M := EReal) rfl fun i _ => ?_)
  · refine congrArg (fun r : EReal => r * ((X (ix3 A (rowI p) b) : ℝ) : EReal) * ((X (ix3 A (rowJ p) b) : ℝ) : EReal))
      (congrArg₂ (fun a b : EReal => a + b) ?_ (Finset.sum_congr (M := EReal) rfl fun k _ => congrArg (fun r : EReal => r * ((X (ix3 A k b) : ℝ) : EReal)) ?_))
    · refine (Result.v103_1_apply m c (e A) p b).trans ?_
      rw [show Result.U2 m c = fun i => ((A2 i : ℝ) : EReal) from e3, show Result.C2 m c = fun i => ((B2 i : ℝ) : EReal) from e6]
    · refine (Result.v104_apply m c (e A) k p b).trans ?_
      unfold Result.six
      rw [show Result.U3 m c = fun i => ((A3 i : ℝ) : EReal) from e2, show Result.C3 m c = fun i => ((B3 i : ℝ) : EReal) from e5]
  · exact congrArg (fun r : EReal => r * ((X (ix3 A i b) : ℝ) : EReal)) ((Result.v103_2_apply m c (e A) i b).trans (mul_comm (G := EReal) _ _))

end Cert.Equal
-- ==== Proof.Value.Finite.lean ====
module

public import proofs.«01_k».proof.Defs
public import proofs.«01_k».proof.Proof.Value.Equal

/-! A number whose absolute value is less than infinity is a real number. -/

@[expose] public section

noncomputable section

namespace Cert.Equal

open Idealize.ShloMosaic

/-- The word the precondition compares against denotes infinity. -/
theorem word_top : Ideal.ofBits .f32 0x7F800000#32 = (⊤ : EReal) := by
  simp [Ideal.ofBits, Ideal.ieee]

/-- A number that passes the comparison is the real number it rounds to. -/
theorem real_of_lt (x : EReal) (h : Ideal.cmp .olt (max x (-x)) (Ideal.ofBits .f32 0x7F800000#32) = 1#1) :
    x = ((x.toReal : ℝ) : EReal) := by
  rw [word_top] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact (EReal.coe_toReal h1 h2).symm

/-- An array every entry of which passes the comparison holds real numbers. -/
theorem reals_of_lt {S : Shape} (x : FVec Ideal S .f32) (h : Cert.Pre_finite_in_range.S_.BroadcastsInDim S (![] : Fin 0 → Fin S.rank))
    (hx : cmpf .olt (Host.absf x) (broadcastInDim S ![] h (constant (F := Ideal) Cert.Pre_finite_in_range.S_ .f32 0x7F800000#32)) = fun _ => 1#1) (i : S.Idx) :
    x i = (((x i : EReal).toReal : ℝ) : EReal) :=
  real_of_lt (x i) (congrFun hx i)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Keep
public import proofs.«01_k».proof.Proof.Word.Keep
public import proofs.«01_k».proof.Proof.Value.Equal
public import proofs.«01_k».proof.Proof.Value.Finite
public import Idealize.ShloMosaic.Lib.Quiescent
public import Idealize.ShloMosaic.Adequacy
public import Idealize.ShloMosaic.Init

@[expose] public section

noncomputable section

namespace Cert.Proof

open Idealize.ShloMosaic Idealize.SL.Sem

/-- The shape relation the first precondition states. -/
instance typesFacts : Cert.Pre_types_in_range.Facts where
  bcast_S_S2048 := by decide

/-- The shape relations the second precondition states. -/
instance finiteFacts : Cert.Pre_finite_in_range.Facts where
  bcast_S_S2048 := by decide
  bcast_S_S2048x16x96 := by decide
  bcast_S_S16x16x16x23 := by decide
  bcast_S_S16x16x4 := by decide
  bcast_S_S3x23x96 := by decide
  bcast_S_S3x4x96 := by decide

/-- The kernel leaves its arguments as they were and every counter at zero. -/
theorem frame_p : Cert.quiescent_Kernel := fun m ρ h =>
  θ_run_mono (Cert.Kernel.Run.run_keeps m ρ (Cert.Kernel.Run.fit_of m fun c i => Cert.Kernel.Run.types_lt _ _ _ _ _ _ _ _ (h c) i))
    fun _ q => ⟨fun c => (q.1 c).2, q.2⟩

/-- The same of the kernel over the extended reals. -/
theorem frame_pi : Cert.quiescent_KernelIdeal := fun m ρ h =>
  θ_run_mono (Cert.KernelIdeal.Run.run_keeps m ρ (Cert.KernelIdeal.Run.fit_of m fun c i => Cert.KernelIdeal.Run.types_lt _ _ _ _ _ _ _ _ (h c) i))
    fun _ q => ⟨fun c => (q.1 c).2, q.2⟩

/-- The first component of the second precondition is the first precondition: every type is below 3. -/
theorem fit_of_finite (m : (ℓ : Loc Cert.KernelIdeal.nD Cert.KernelIdeal.τ Cert.KernelIdeal.sig) → Buf (Elt Ideal) ℓ)
    (h : Cert.Pre_KernelIdeal_finite_in_range m) (c : Dev Cert.KernelIdeal.nD) (i) :
    (m ((c.tc : Thread Cert.KernelIdeal.nD Cert.KernelIdeal.τ).loc Cert.KernelIdeal.main_arg1) i).toNat < 3 :=
  Cert.KernelIdeal.Run.word_lt _ (congrFun (h c).1 i)

/-- The kernel over the extended reals under the second precondition. -/
theorem frame_pi_finite : Cert.quiescent_KernelIdeal_pre_finite_in_range := fun m ρ h =>
  θ_run_mono (Cert.KernelIdeal.Run.run_keeps m ρ (Cert.KernelIdeal.Run.fit_of m (fit_of_finite m h)))
    fun _ q => ⟨fun c => (q.1 c).2, q.2⟩

/-- The reference leaves its arguments as they were; it declares no semaphore. -/
theorem frame_ri : Cert.quiescent_ReferenceIdeal := fun m ρ _ =>
  θ_run_mono (Cert.ReferenceIdeal.Value.run (F := Ideal) m ρ)
    fun r q => ⟨fun c => (q c).2, sem_eq_zero_of_no_sems (by decide) r.2⟩

/-- The same under the second precondition. -/
theorem frame_ri_finite : Cert.quiescent_ReferenceIdeal_pre_finite_in_range := fun m ρ _ =>
  θ_run_mono (Cert.ReferenceIdeal.Value.run (F := Ideal) m ρ)
    fun r q => ⟨fun c => (q c).2, sem_eq_zero_of_no_sems (by decide) r.2⟩

/-- The element an atom's type names. -/
def element (w : BitVec 32) (h : w.toNat < 3) : Fin 3 := ⟨w.toNat, h⟩

/-- The type is the word of its element. -/
theorem eq_element (w : BitVec 32) (h : w.toNat < 3) : w = BitVec.ofNat 32 (element w h).val := by
  unfold element; simp

/-- The kernel's result is the reference's function of the same arguments, under the second precondition. -/
theorem same_values (m : (ℓ : Loc Cert.KernelIdeal.nD Cert.KernelIdeal.τ Cert.KernelIdeal.sig) → Buf (Elt Ideal) ℓ)
    (h : Cert.Pre_KernelIdeal_finite_in_range m) (c : Dev Cert.KernelIdeal.nD) :
    Cert.KernelIdeal.Run.W4 m (Cert.KernelIdeal.Run.fit_of m (fit_of_finite m h)) c (Proc.devRef .tc Cert.KernelIdeal.main_v106)
      = Cert.ReferenceIdeal.Read.val_main_v20 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) :=
  Cert.Equal.results m c (Cert.KernelIdeal.Run.fit_of m (fit_of_finite m h))
    (fun A => element _ (fit_of_finite m h c (Idealize.ShloMosaic.ValueIdx.ix1 A))) (fun A => eq_element _ _)
    _ (Cert.Equal.reals_of_lt _ _ (h c).2.1) _ (Cert.Equal.reals_of_lt _ _ (h c).2.2.1) _ (Cert.Equal.reals_of_lt _ _ (h c).2.2.2.1)
    _ (Cert.Equal.reals_of_lt _ _ (h c).2.2.2.2.1) _ (Cert.Equal.reals_of_lt _ _ (h c).2.2.2.2.2)

/-- Both programs end with equal results over the extended reals. -/
theorem values_eq : Cert.algebraic_KernelIdeal_ReferenceIdeal_pre_finite_in_range := fun m g m' g' h hm =>
  ⟨fun c => Cert.KernelIdeal.Run.W4 m (Cert.KernelIdeal.Run.fit_of m (fit_of_finite m h)) c (Proc.devRef .tc Cert.KernelIdeal.main_v106),
    θ_run_mono (Cert.KernelIdeal.Run.run_keeps m g (Cert.KernelIdeal.Run.fit_of m (fit_of_finite m h))) fun _ q => q.1,
    θ_run_mono (Cert.ReferenceIdeal.Value.run (F := Ideal) m' g') fun _ q c => ⟨(q c).1.trans ((Cert.ReferenceIdeal.Read.val_main_v20_eq m' c).trans (by
      obtain ⟨e0, e1, e2, e3, e4, e5, e6, e7⟩ := hm c
      rw [e0, e1, e2, e3, e4, e5, e6, e7]
      exact (same_values m h c).symm)), (q c).2⟩⟩

/-- Every claim of the certificate. -/
theorem claim : Cert.Claim :=
  ⟨Cert.Kernel.Gen.facts, Cert.KernelIdeal.Gen.facts, Cert.ReferenceIdeal.Gen.facts, typesFacts, finiteFacts,
    frame_p, frame_pi, frame_pi_finite, frame_ri, frame_ri_finite, trivial, values_eq⟩

end Cert.Proof

end
